-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v75) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_v37) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v24_0)) (v1 : (c : Dev Cert.InProjIdeal.nD) → Buf (Elt Ideal) ((c.tc : Thread Cert.InProjIdeal.nD Cert.InProjIdeal.τ).loc Cert.InProjIdeal.main_v24_1)) (v2 : (c : Dev Cert.InProjIdeal.nD) → Buf (Elt Ideal) ((c.tc : Thread Cert.InProjIdeal.nD Cert.InProjIdeal.τ).loc Cert.InProjIdeal.main_v24_2)) (v3 : (c : Dev Cert.InProjIdeal.nD) → Buf (Elt Ideal) ((c.tc : Thread Cert.InProjIdeal.nD Cert.InProjIdeal.τ).loc Cert.InProjIdeal.main_v24_3)) (v4 : (c : Dev Cert.InProjIdeal.nD) → Buf (Elt Ideal) ((c.tc : Thread Cert.InProjIdeal.nD Cert.InProjIdeal.τ).loc Cert.InProjIdeal.main_v24_4)) (v5 : (c : Dev Cert.InProjIdeal.nD) → Buf (Elt Ideal) ((c.tc : Thread Cert.InProjIdeal.nD Cert.InProjIdeal.τ).loc Cert.InProjIdeal.main_v24_5)) (v6 : (c : Dev Cert.InProjIdeal.nD) → Buf (Elt Ideal) ((c.tc : Thread Cert.InProjIdeal.nD Cert.InProjIdeal.τ).loc Cert.InProjIdeal.main_v24_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v24_0) = v0 c
          ∧ r.2.mem ((c.tc : Thread Cert.InProjIdeal.nD Cert.InProjIdeal.τ).loc Cert.InProjIdeal.main_v24_1) = v1 c
          ∧ r.2.mem ((c.tc : Thread Cert.InProjIdeal.nD Cert.InProjIdeal.τ).loc Cert.InProjIdeal.main_v24_2) = v2 c
          ∧ r.2.mem ((c.tc : Thread Cert.InProjIdeal.nD Cert.InProjIdeal.τ).loc Cert.InProjIdeal.main_v24_3) = v3 c
          ∧ r.2.mem ((c.tc : Thread Cert.InProjIdeal.nD Cert.InProjIdeal.τ).loc Cert.InProjIdeal.main_v24_4) = v4 c
          ∧ r.2.mem ((c.tc : Thread Cert.InProjIdeal.nD Cert.InProjIdeal.τ).loc Cert.InProjIdeal.main_v24_5) = v5 c
          ∧ r.2.mem ((c.tc : Thread Cert.InProjIdeal.nD Cert.InProjIdeal.τ).loc Cert.InProjIdeal.main_v24_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v95) = v0 c
          ∧ r.2.mem ((c.tc : Thread Cert.InProjRefIdeal.nD Cert.InProjRefIdeal.τ).loc Cert.InProjRefIdeal.main_v96) = v1 c
          ∧ r.2.mem ((c.tc : Thread Cert.InProjRefIdeal.nD Cert.InProjRefIdeal.τ).loc Cert.InProjRefIdeal.main_v97) = v2 c
          ∧ r.2.mem ((c.tc : Thread Cert.InProjRefIdeal.nD Cert.InProjRefIdeal.τ).loc Cert.InProjRefIdeal.main_v94) = v3 c
          ∧ r.2.mem ((c.tc : Thread Cert.InProjRefIdeal.nD Cert.InProjRefIdeal.τ).loc Cert.InProjRefIdeal.main_v111) = v4 c
          ∧ r.2.mem ((c.tc : Thread Cert.InProjRefIdeal.nD Cert.InProjRefIdeal.τ).loc Cert.InProjRefIdeal.main_v118) = v5 c
          ∧ r.2.mem ((c.tc : Thread Cert.InProjRefIdeal.nD Cert.InProjRefIdeal.τ).loc Cert.InProjRefIdeal.main_v125) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
-- ==== Pre_finite.lean ====
abbrev S16x4096x1024 : Shape := ⟨3, ![16, 4096, 1024]⟩
abbrev S16x4096x256 : Shape := ⟨3, ![16, 4096, 256]⟩
abbrev S8 : Shape := ⟨1, ![8]⟩
abbrev S_ : Shape := ⟨0, ![]⟩

class Facts : Prop where
  bitsLt_bf16_f32 : FTy.bits .bf16 < FTy.bits .f32
  bcast_S_S16x4096x1024 : S_.BroadcastsInDim S16x4096x1024 (![] : Fin 0 → Fin S16x4096x1024.rank)
  bcast_S_S16x4096x256 : S_.BroadcastsInDim S16x4096x256 (![] : Fin 0 → Fin S16x4096x256.rank)
  bcast_S_S8 : S_.BroadcastsInDim S8 (![] : Fin 0 → Fin S8.rank)

variable [Facts]

def fn_part1 {F : FTy → Type} [FloatOps F] (main_v6 : IVec S16x4096x1024 1) (main_v13 : IVec S16x4096x256 1) (main_v15 : IVec S8 1) (main_v17 : IVec S8 1) : IVec S16x4096x1024 1 × IVec S16x4096x256 1 × IVec S8 1 :=
  let main_v18 : IVec S8 1 := andi main_v15 main_v17
  (main_v6, main_v13, main_v18)

def fn {F : FTy → Type} [FloatOps F] (main_arg0 : FVec F S16x4096x1024 .bf16) (main_arg1 : FVec F S16x4096x256 .bf16) (main_arg2 : FVec F S16x4096x256 .bf16) (main_arg3 : FVec F S8 .f32) : IVec S16x4096x1024 1 × IVec S16x4096x256 1 × IVec S8 1 :=
  let main_v0 : FVec F S16x4096x1024 .f32 := (extf .f32 · bitsLt_bf16_f32) main_arg0
  let main_cst : FVec F S_ .f32 := constant S_ .f32 0xFF800000#32
  let main_v1 : FVec F S16x4096x1024 .f32 := broadcastInDim S16x4096x1024 ![] bcast_S_S16x4096x1024 main_cst
  let main_v2 : IVec S16x4096x1024 1 := cmpf .ogt main_v0 main_v1
  let main_v3 : FVec F S16x4096x1024 .f32 := (extf .f32 · bitsLt_bf16_f32) main_arg0
  let main_cst_0 : FVec F S_ .f32 := constant S_ .f32 0x7F800000#32
  let main_v4 : FVec F S16x4096x1024 .f32 := broadcastInDim S16x4096x1024 ![] bcast_S_S16x4096x1024 main_cst_0
  let main_v5 : IVec S16x4096x1024 1 := cmpf .olt main_v3 main_v4
  let main_v6 : IVec S16x4096x1024 1 := andi main_v2 main_v5
  let main_v7 : FVec F S16x4096x256 .f32 := (extf .f32 · bitsLt_bf16_f32) main_arg1
  let main_cst_1 : FVec F S_ .f32 := constant S_ .f32 0xFF800000#32
  let main_v8 : FVec F S16x4096x256 .f32 := broadcastInDim S16x4096x256 ![] bcast_S_S16x4096x256 main_cst_1
  let main_v9 : IVec S16x4096x256 1 := cmpf .ogt main_v7 main_v8
  let main_v10 : FVec F S16x4096x256 .f32 := (extf .f32 · bitsLt_bf16_f32) main_arg1
  let main_cst_2 : FVec F S_ .f32 := constant S_ .f32 0x7F800000#32
  let main_v11 : FVec F S16x4096x256 .f32 := broadcastInDim S16x4096x256 ![] bcast_S_S16x4096x256 main_cst_2
  let main_v12 : IVec S16x4096x256 1 := cmpf .olt main_v10 main_v11
  let main_v13 : IVec S16x4096x256 1 := andi main_v9 main_v12
  let main_cst_3 : FVec F S_ .f32 := constant S_ .f32 0xFF800000#32
  let main_v14 : FVec F S8 .f32 := broadcastInDim S8 ![] bcast_S_S8 main_cst_3
  let main_v15 : IVec S8 1 := cmpf .ogt main_arg3 main_v14
  let main_cst_4 : FVec F S_ .f32 := constant S_ .f32 0x7F800000#32
  let main_v16 : FVec F S8 .f32 := broadcastInDim S8 ![] bcast_S_S8 main_cst_4
  let main_v17 : IVec S8 1 := cmpf .olt main_arg3 main_v16
  fn_part1 (F := F) main_v6 main_v13 main_v15 main_v17
-- ==== Attn.lean ====
abbrev S16x4096x1024 : Shape := ⟨3, ![16, 4096, 1024]⟩
abbrev S16x4096x256 : Shape := ⟨3, ![16, 4096, 256]⟩
abbrev S8 : Shape := ⟨1, ![8]⟩
abbrev S1x512x1024 : Shape := ⟨3, ![1, 512, 1024]⟩
abbrev S1x128x256 : Shape := ⟨3, ![1, 128, 256]⟩
abbrev S1x512x256 : Shape := ⟨3, ![1, 512, 256]⟩
abbrev S128x256 : Shape := ⟨2, ![128, 256]⟩
abbrev S512x256 : Shape := ⟨2, ![512, 256]⟩
abbrev S768x256 : Shape := ⟨2, ![768, 256]⟩
abbrev S512x384 : Shape := ⟨2, ![512, 384]⟩
abbrev S512x1 : Shape := ⟨2, ![512, 1]⟩
abbrev S384x128 : Shape := ⟨2, ![384, 128]⟩
abbrev S1x128x128 : Shape := ⟨3, ![1, 128, 128]⟩
abbrev S128x128 : Shape := ⟨2, ![128, 128]⟩
abbrev S512x128 : Shape := ⟨2, ![512, 128]⟩
abbrev S1 : Shape := ⟨1, ![1]⟩
abbrev S512 : Shape := ⟨1, ![512]⟩

abbrev nBuf : Space → Nat
  | .hbm => 5
  | .vmem => 16
  | .smem => 1
  | _ => 0

abbrev bufTy : (tb : Table) → Fin (tcTables nBuf tb) → BufTy
  | .hbm, ⟨0, _⟩ => ⟨S16x4096x1024, .bf16⟩
  | .hbm, ⟨1, _⟩ => ⟨S16x4096x256, .bf16⟩
  | .hbm, ⟨2, _⟩ => ⟨S16x4096x256, .bf16⟩
  | .hbm, ⟨3, _⟩ => ⟨S8, .f32⟩
  | .hbm, ⟨4, _⟩ => ⟨S16x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x512x1024, .bf16⟩
  | .local _ .vmem, ⟨15, _⟩ => ⟨S1x512x1024, .bf16⟩
  | .local _ .smem, ⟨0, _⟩ => ⟨S8, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S16x4096x1024 : Shape := ⟨3, ![16, 4096, 1024]⟩
abbrev S16x4096x256 : Shape := ⟨3, ![16, 4096, 256]⟩
abbrev S8 : Shape := ⟨1, ![8]⟩
abbrev S16x4096x8x128 : Shape := ⟨4, ![16, 4096, 8, 128]⟩
abbrev S16x4096x2x128 : Shape := ⟨4, ![16, 4096, 2, 128]⟩
abbrev S16x32x128x2x4x128 : Shape := ⟨6, ![16, 32, 128, 2, 4, 128]⟩
abbrev S16x32x128x2x128 : Shape := ⟨5, ![16, 32, 128, 2, 128]⟩
abbrev S_ : Shape := ⟨0, ![]⟩
abbrev S16x34x128x2x128 : Shape := ⟨5, ![16, 34, 128, 2, 128]⟩
abbrev S16x32x384x2x128 : Shape := ⟨5, ![16, 32, 384, 2, 128]⟩
abbrev S16x32x2x384x128x4 : Shape := ⟨6, ![16, 32, 2, 384, 128, 4]⟩
abbrev S16x32x2x4x128x384 : Shape := ⟨6, ![16, 32, 2, 4, 128, 384]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S384 : Shape := ⟨1, ![384]⟩
abbrev S1x1x384 : Shape := ⟨3, ![1, 1, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S16x32x2x4x128 : Shape := ⟨5, ![16, 32, 2, 4, 128]⟩
abbrev S16x32x2x4x128x1 : Shape := ⟨6, ![16, 32, 2, 4, 128, 1]⟩
abbrev S16x32x2x128x4x128 : Shape := ⟨6, ![16, 32, 2, 128, 4, 128]⟩

abbrev nBuf : Space → Nat
  | .hbm => 96
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x256, .bf16⟩
  | .hbm, ⟨2, _⟩ => ⟨S16x4096x256, .bf16⟩
  | .hbm, ⟨3, _⟩ => ⟨S8, .f32⟩
  | .hbm, ⟨4, _⟩ => ⟨S16x4096x1024, .f32⟩
  | .hbm, ⟨5, _⟩ => ⟨S16x4096x8x128, .f32⟩
  | .hbm, ⟨6, _⟩ => ⟨S16x4096x256, .f32⟩
  | .hbm, ⟨7, _⟩ => ⟨S16x4096x2x128, .f32⟩
  | .hbm, ⟨8, _⟩ => ⟨S16x4096x256, .f32⟩
  | .hbm, ⟨9, _⟩ => ⟨S16x4096x2x128, .f32⟩
  | .hbm, ⟨10, _⟩ => ⟨S16x32x128x2x4x128, .f32⟩
  | .hbm, ⟨11, _⟩ => ⟨S16x32x128x2x128, .f32⟩
  | .hbm, ⟨12, _⟩ => ⟨S_, .i32⟩
  | .hbm, ⟨13, _⟩ => ⟨S_, .f32⟩
  | .hbm, ⟨14, _⟩ => ⟨S16x34x128x2x128, .f32⟩
  | .hbm, ⟨15, _⟩ => ⟨S16x32x128x2x128, .f32⟩
  | .hbm, ⟨16, _⟩ => ⟨S16x32x128x2x128, .f32⟩
  | .hbm, ⟨17, _⟩ => ⟨S16x32x128x2x128, .f32⟩
  | .hbm, ⟨18, _⟩ => ⟨S16x32x384x2x128, .f32⟩
  | .hbm, ⟨19, _⟩ => ⟨S16x32x128x2x128, .f32⟩
  | .hbm, ⟨20, _⟩ => ⟨S_, .i32⟩
  | .hbm, ⟨21, _⟩ => ⟨S_, .f32⟩
  | .hbm, ⟨22, _⟩ => ⟨S16x34x128x2x128, .f32⟩
  | .hbm, ⟨23, _⟩ => ⟨S16x32x128x2x128, .f32⟩
  | .hbm, ⟨24, _⟩ => ⟨S16x32x128x2x128, .f32⟩
  | .hbm, ⟨25, _⟩ => ⟨S16x32x128x2x128, .f32⟩
  | .hbm, ⟨26, _⟩ => ⟨S16x32x384x2x128, .f32⟩
  | .hbm, ⟨27, _⟩ => ⟨S16x32x2x384x128x4, .f32⟩
  | .hbm, ⟨28, _⟩ => ⟨S16x32x2x4x128x384, .f32⟩
  | .hbm, ⟨29, _⟩ => ⟨S32, .i32⟩
  | .hbm, ⟨30, _⟩ => ⟨S32x1x1, .i32⟩
  | .hbm, ⟨31, _⟩ => ⟨S_, .i32⟩
  | .hbm, ⟨32, _⟩ => ⟨S32x1x1, .i32⟩
  | .hbm, ⟨33, _⟩ => ⟨S32x1x1, .i32⟩
  | .hbm, ⟨34, _⟩ => ⟨S128, .i32⟩
  | .hbm, ⟨35, _⟩ => ⟨S1x128x1, .i32⟩
  | .hbm, ⟨36, _⟩ => ⟨S32x128x1, .i32⟩
  | .hbm, ⟨37, _⟩ => ⟨S32x128x1, .i32⟩
  | .hbm, ⟨38, _⟩ => ⟨S32x128x1, .i32⟩
  | .hbm, ⟨39, _⟩ => ⟨S_, .i32⟩
  | .hbm, ⟨40, _⟩ => ⟨S32x1x1, .i32⟩
  | .hbm, ⟨41, _⟩ => ⟨S32x1x1, .i32⟩
  | .hbm, ⟨42, _⟩ => ⟨S_, .i32⟩
  | .hbm, ⟨43, _⟩ => ⟨S32x1x1, .i32⟩
  | .hbm, ⟨44, _⟩ => ⟨S32x1x1, .i32⟩
  | .hbm, ⟨45, _⟩ => ⟨S384, .i32⟩
  | .hbm, ⟨46, _⟩ => ⟨S1x1x384, .i32⟩
  | .hbm, ⟨47, _⟩ => ⟨S32x1x384, .i32⟩
  | .hbm, ⟨48, _⟩ => ⟨S32x1x384, .i32⟩
  | .hbm, ⟨49, _⟩ => ⟨S32x1x384, .i32⟩
  | .hbm, ⟨50, _⟩ => ⟨S32x128x384, .i32⟩
  | .hbm, ⟨51, _⟩ => ⟨S32x128x384, .i32⟩
  | .hbm, ⟨52, _⟩ => ⟨S32x128x384, .i32⟩
  | .hbm, ⟨53, _⟩ => ⟨S32x128x384, .i32⟩
  | .hbm, ⟨54, _⟩ => ⟨S_, .i32⟩
  | .hbm, ⟨55, _⟩ => ⟨S32x128x384, .i32⟩
  | .hbm, ⟨56, _⟩ => ⟨S32x128x384, .i1⟩
  | .hbm, ⟨57, _⟩ => ⟨S_, .i32⟩
  | .hbm, ⟨58, _⟩ => ⟨S32x1x384, .i32⟩
  | .hbm, ⟨59, _⟩ => ⟨S32x1x384, .i1⟩
  | .hbm, ⟨60, _⟩ => ⟨S32x128x384, .i1⟩
  | .hbm, ⟨61, _⟩ => ⟨S32x128x384, .i1⟩
  | .hbm, ⟨62, _⟩ => ⟨S_, .i32⟩
  | .hbm, ⟨63, _⟩ => ⟨S32x1x384, .i32⟩
  | .hbm, ⟨64, _⟩ => ⟨S32x1x384, .i1⟩
  | .hbm, ⟨65, _⟩ => ⟨S32x128x384, .i1⟩
  | .hbm, ⟨66, _⟩ => ⟨S32x128x384, .i1⟩
  | .hbm, ⟨67, _⟩ => ⟨S1x32x1x1x128x384, .i1⟩
  | .hbm, ⟨68, _⟩ => ⟨S_, .f32⟩
  | .hbm, ⟨69, _⟩ => ⟨S_, .f32⟩
  | .hbm, ⟨70, _⟩ => ⟨S16x32x2x4x128x384, .i1⟩
  | .hbm, ⟨71, _⟩ => ⟨S16x32x2x4x128x384, .f32⟩
  | .hbm, ⟨72, _⟩ => ⟨S16x32x2x4x128x384, .f32⟩
  | .hbm, ⟨73, _⟩ => ⟨S2x4, .f32⟩
  | .hbm, ⟨74, _⟩ => ⟨S1x1x2x4x1x1, .f32⟩
  | .hbm, ⟨75, _⟩ => ⟨S_, .f32⟩
  | .hbm, ⟨76, _⟩ => ⟨S16x32x2x4x128, .f32⟩
  | .hbm, ⟨77, _⟩ => ⟨S16x32x2x4x128x1, .f32⟩
  | .hbm, ⟨78, _⟩ => ⟨S16x32x2x4x128x1, .f32⟩
  | .hbm, ⟨79, _⟩ => ⟨S16x32x2x4x128x1, .f32⟩
  | .hbm, ⟨80, _⟩ => ⟨S16x32x2x4x128x384, .f32⟩
  | .hbm, ⟨81, _⟩ => ⟨S16x32x2x4x128x384, .f32⟩
  | .hbm, ⟨82, _⟩ => ⟨S16x32x2x4x128x384, .f32⟩
  | .hbm, ⟨83, _⟩ => ⟨S_, .f32⟩
  | .hbm, ⟨84, _⟩ => ⟨S16x32x2x4x128, .f32⟩
  | .hbm, ⟨85, _⟩ => ⟨S16x32x2x4x128x1, .f32⟩
  | .hbm, ⟨86, _⟩ => ⟨S16x32x2x4x128x1, .f32⟩
  | .hbm, ⟨87, _⟩ => ⟨S16x32x2x4x128x1, .f32⟩
  | .hbm, ⟨88, _⟩ => ⟨S16x32x2x4x128x1, .f32⟩
  | .hbm, ⟨89, _⟩ => ⟨S16x32x2x4x128x1, .f32⟩
  | .hbm, ⟨90, _⟩ => ⟨S16x32x2x4x128x384, .f32⟩
  | .hbm, ⟨91, _⟩ => ⟨S16x32x2x4x128x384, .f32⟩
  | .hbm, ⟨92, _⟩ => ⟨S16x32x2x128x4x128, .f32⟩
  | .hbm, ⟨93, _⟩ => ⟨S16x32x128x2x4x128, .f32⟩
  | .hbm, ⟨94, _⟩ => ⟨S16x4096x1024, .f32⟩
  | .hbm, ⟨95, _⟩ => ⟨S16x4096x1024, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_4 : Ref sig .tc := ⟨.hbm, 54, rfl⟩
abbrev main_v43 : Ref sig .tc := ⟨.hbm, 55, rfl⟩
abbrev main_v44 : Ref sig .tc := ⟨.hbm, 56, rfl⟩
abbrev main_c_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Ffn.lean ====
abbrev S65536x1024 : Shape := ⟨2, ![65536, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S65536x1024 : Shape := ⟨2, ![65536, 1024]⟩
abbrev S1024x5632 : Shape := ⟨2, ![1024, 5632]⟩
abbrev S2816x1024 : Shape := ⟨2, ![2816, 1024]⟩
abbrev S1024 : Shape := ⟨1, ![1024]⟩
abbrev S65536x5632 : Shape := ⟨2, ![65536, 5632]⟩
abbrev S65536x2816 : Shape := ⟨2, ![65536, 2816]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S65536x5632, .f32⟩
  | .hbm, ⟨7, _⟩ => ⟨S65536x2816, .f32⟩
  | .hbm, ⟨8, _⟩ => ⟨S65536x2816, .f32⟩
  | .hbm, ⟨9, _⟩ => ⟨S65536x2816, .f32⟩
  | .hbm, ⟨10, _⟩ => ⟨S_, .f32⟩
  | .hbm, ⟨11, _⟩ => ⟨S65536x2816, .f32⟩
  | .hbm, ⟨12, _⟩ => ⟨S65536x2816, .f32⟩
  | .hbm, ⟨13, _⟩ => ⟨S_, .f32⟩
  | .hbm, ⟨14, _⟩ => ⟨S65536x2816, .f32⟩
  | .hbm, ⟨15, _⟩ => ⟨S65536x2816, .f32⟩
  | .hbm, ⟨16, _⟩ => ⟨S65536x2816, .f32⟩
  | .hbm, ⟨17, _⟩ => ⟨S65536x2816, .f32⟩
  | .hbm, ⟨18, _⟩ => ⟨S65536x2816, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S1x1024, .f32⟩
  | .hbm, ⟨34, _⟩ => ⟨S65536x1024, .f32⟩
  | .hbm, ⟨35, _⟩ => ⟨S65536x1024, .f32⟩
  | .hbm, ⟨36, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Merge.lean ====
abbrev S65536x1024 : Shape := ⟨2, ![65536, 1024]⟩
abbrev S65536x1280 : Shape := ⟨2, ![65536, 1280]⟩
abbrev S1024x1024 : Shape := ⟨2, ![1024, 1024]⟩
abbrev S1280x1024 : Shape := ⟨2, ![1280, 1024]⟩
abbrev S1024 : Shape := ⟨1, ![1024]⟩
abbrev S1x1024 : Shape := ⟨2, ![1, 1024]⟩
abbrev S512x1024 : Shape := ⟨2, ![512, 1024]⟩
abbrev S512x1280 : Shape := ⟨2, ![512, 1280]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1280, .bf16⟩
  | .hbm, ⟨3, _⟩ => ⟨S65536x1024, .bf16⟩
  | .hbm, ⟨4, _⟩ => ⟨S65536x1024, .bf16⟩
  | .hbm, ⟨5, _⟩ => ⟨S1024x1024, .f32⟩
  | .hbm, ⟨6, _⟩ => ⟨S1280x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S1280x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S65536x1024, .f32⟩
  | .hbm, ⟨16, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1280, .bf16⟩
  | .local _ .vmem, ⟨5, _⟩ => ⟨S512x1280, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1280x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S65536x1024 : Shape := ⟨2, ![65536, 1024]⟩
abbrev S65536x1280 : Shape := ⟨2, ![65536, 1280]⟩
abbrev S1024x1024 : Shape := ⟨2, ![1024, 1024]⟩
abbrev S1280x1024 : Shape := ⟨2, ![1280, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1280, .bf16⟩
  | .hbm, ⟨3, _⟩ => ⟨S65536x1024, .bf16⟩
  | .hbm, ⟨4, _⟩ => ⟨S65536x1024, .bf16⟩
  | .hbm, ⟨5, _⟩ => ⟨S1024x1024, .f32⟩
  | .hbm, ⟨6, _⟩ => ⟨S1280x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S65536x1024, .f32⟩
  | .hbm, ⟨11, _⟩ => ⟨S65536x1280, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S1x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536, .f32⟩
  | .hbm, ⟨40, _⟩ => ⟨S65536x1, .f32⟩
  | .hbm, ⟨41, _⟩ => ⟨S_, .f32⟩
  | .hbm, ⟨42, _⟩ => ⟨S65536x1, .f32⟩
  | .hbm, ⟨43, _⟩ => ⟨S65536x1, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S65536x1, .f32⟩
  | .hbm, ⟨48, _⟩ => ⟨S65536x1024, .f32⟩
  | .hbm, ⟨49, _⟩ => ⟨S65536x1024, .f32⟩
  | .hbm, ⟨50, _⟩ => ⟨S1x1024, .f32⟩
  | .hbm, ⟨51, _⟩ => ⟨S65536x1024, .f32⟩
  | .hbm, ⟨52, _⟩ => ⟨S65536x1024, .f32⟩
  | .hbm, ⟨53, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== InProj.lean ====
abbrev S16x4096x1024 : Shape := ⟨3, ![16, 4096, 1024]⟩
abbrev S1024 : Shape := ⟨1, ![1024]⟩
abbrev S1024x6144 : Shape := ⟨2, ![1024, 6144]⟩
abbrev S1x1024 : Shape := ⟨2, ![1, 1024]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S16x4096x256 : Shape := ⟨3, ![16, 4096, 256]⟩
abbrev S2x10x32768x128 : Shape := ⟨4, ![2, 10, 32768, 128]⟩
abbrev S16x4096x1280 : Shape := ⟨3, ![16, 4096, 1280]⟩
abbrev S8x64x1024 : Shape := ⟨3, ![8, 64, 1024]⟩
abbrev S64x128 : Shape := ⟨2, ![64, 128]⟩
abbrev S8x64x256 : Shape := ⟨3, ![8, 64, 256]⟩
abbrev S1x10x512x128 : Shape := ⟨4, ![1, 10, 512, 128]⟩
abbrev S8x64x1280 : Shape := ⟨3, ![8, 64, 1280]⟩
abbrev S512x1024 : Shape := ⟨2, ![512, 1024]⟩
abbrev S512 : Shape := ⟨1, ![512]⟩
abbrev S512x1 : Shape := ⟨2, ![512, 1]⟩
abbrev S1x64x128 : Shape := ⟨3, ![1, 64, 128]⟩
abbrev S1024x1024 : Shape := ⟨2, ![1024, 1024]⟩
abbrev S512x128 : Shape := ⟨2, ![512, 128]⟩
abbrev S8x64x128 : Shape := ⟨3, ![8, 64, 128]⟩
abbrev S1024x256 : Shape := ⟨2, ![1024, 256]⟩
abbrev S512x256 : Shape := ⟨2, ![512, 256]⟩
abbrev S1024x1280 : Shape := ⟨2, ![1024, 1280]⟩
abbrev S512x1280 : Shape := ⟨2, ![512, 1280]⟩
abbrev S1x1x64x128 : Shape := ⟨4, ![1, 1, 64, 128]⟩

abbrev nBuf : Space → Nat
  | .hbm => 39
  | .vmem => 24
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x6144, .f32⟩
  | .hbm, ⟨3, _⟩ => ⟨S1x1024, .f32⟩
  | .hbm, ⟨4, _⟩ => ⟨S1024x6144, .bf16⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S4096, .i32⟩
  | .hbm, ⟨14, _⟩ => ⟨S4096, .f32⟩
  | .hbm, ⟨15, _⟩ => ⟨S4096x1, .f32⟩
  | .hbm, ⟨16, _⟩ => ⟨S1x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S4096x96, .f32⟩
  | .hbm, ⟨24, _⟩ => ⟨S_, .f32⟩
  | .hbm, ⟨25, _⟩ => ⟨S4096x16, .f32⟩
  | .hbm, ⟨26, _⟩ => ⟨S_, .f32⟩
  | .hbm, ⟨27, _⟩ => ⟨S4096x96, .f32⟩
  | .hbm, ⟨28, _⟩ => ⟨S4096x128, .f32⟩
  | .hbm, ⟨29, _⟩ => ⟨S4096x128, .f32⟩
  | .hbm, ⟨30, _⟩ => ⟨S4096x16, .f32⟩
  | .hbm, ⟨31, _⟩ => ⟨S4096x128, .f32⟩
  | .hbm, ⟨32, _⟩ => ⟨S16x4096x1024, .bf16⟩
  | .hbm, ⟨33, _⟩ => ⟨S16x4096x256, .bf16⟩
  | .hbm, ⟨34, _⟩ => ⟨S16x4096x256, .bf16⟩
  | .hbm, ⟨35, _⟩ => ⟨S2x10x32768x128, .f32⟩
  | .hbm, ⟨36, _⟩ => ⟨S16x4096x1280, .bf16⟩
  | .hbm, ⟨37, _⟩ => ⟨S16x4096x1024, .bf16⟩
  | .hbm, ⟨38, _⟩ => ⟨S16x4096x1024, .bf16⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S1024x6144, .bf16⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S8x64x1024, .bf16⟩
  | .local _ .vmem, ⟨11, _⟩ => ⟨S8x64x1024, .bf16⟩
  | .local _ .vmem, ⟨12, _⟩ => ⟨S8x64x256, .bf16⟩
  | .local _ .vmem, ⟨13, _⟩ => ⟨S8x64x256, .bf16⟩
  | .local _ .vmem, ⟨14, _⟩ => ⟨S8x64x256, .bf16⟩
  | .local _ .vmem, ⟨15, _⟩ => ⟨S8x64x256, .bf16⟩
  | .local _ .vmem, ⟨16, _⟩ => ⟨S1x10x512x128, .f32⟩
  | .local _ .vmem, ⟨17, _⟩ => ⟨S1x10x512x128, .f32⟩
  | .local _ .vmem, ⟨18, _⟩ => ⟨S8x64x1280, .bf16⟩
  | .local _ .vmem, ⟨19, _⟩ => ⟨S8x64x1280, .bf16⟩
  | .local _ .vmem, ⟨20, _⟩ => ⟨S8x64x1024, .bf16⟩
  | .local _ .vmem, ⟨21, _⟩ => ⟨S8x64x1024, .bf16⟩
  | .local _ .vmem, ⟨22, _⟩ => ⟨S8x64x1024, .bf16⟩
  | .local _ .vmem, ⟨23, _⟩ => ⟨S8x64x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev main_v24_4 : Ref sig .tc := ⟨.hbm, 36, rfl⟩
abbrev main_v24_5 : Ref sig .tc := ⟨.hbm, 37, rfl⟩
abbrev main_v24_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x10x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x64x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InProjRefIdeal.lean ====
abbrev S16x4096x1024 : Shape := ⟨3, ![16, 4096, 1024]⟩
abbrev S1024 : Shape := ⟨1, ![1024]⟩
abbrev S1024x6144 : Shape := ⟨2, ![1024, 6144]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x6144 : Shape := ⟨3, ![16, 4096, 6144]⟩
abbrev S16x4096x256 : Shape := ⟨3, ![16, 4096, 256]⟩
abbrev S16x4096x1280 : Shape := ⟨3, ![16, 4096, 1280]⟩
abbrev S4096 : Shape := ⟨1, ![4096]⟩
abbrev S16x4096x8x128 : Shape := ⟨4, ![16, 4096, 8, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S16x4096x8x32 : Shape := ⟨4, ![16, 4096, 8, 32]⟩
abbrev S16x4096x8x16 : Shape := ⟨4, ![16, 4096, 8, 16]⟩
abbrev S16x4096x8x96 : Shape := ⟨4, ![16, 4096, 8, 96]⟩
abbrev S16x4096x2x128 : Shape := ⟨4, ![16, 4096, 2, 128]⟩
abbrev S16x4096x2x32 : Shape := ⟨4, ![16, 4096, 2, 32]⟩
abbrev S16x4096x2x16 : Shape := ⟨4, ![16, 4096, 2, 16]⟩
abbrev S16x4096x2x96 : Shape := ⟨4, ![16, 4096, 2, 96]⟩
abbrev S2x8x4096x10x128 : Shape := ⟨5, ![2, 8, 4096, 10, 128]⟩
abbrev S2x10x4096x8x128 : Shape := ⟨5, ![2, 10, 4096, 8, 128]⟩
abbrev S2x10x32768x128 : Shape := ⟨4, ![2, 10, 32768, 128]⟩

abbrev nBuf : Space → Nat
  | .hbm => 145
  | .vmem => 0
  | .smem => 0
  | _ => 0

abbrev hbmTy0_0 (i : Nat) : BufTy := match i % 128 with
  | 0 => ⟨S16x4096x1024, .f32⟩
  | 1 => ⟨S1024, .f32⟩
  | 2 => ⟨S1024x6144, .f32⟩
  | 3 => ⟨S16x4096x1024, .f32⟩
  | 4 => ⟨S_, .f32⟩
  | 5 => ⟨S16x4096, .f32⟩
  | 6 => ⟨S16x4096x1, .f32⟩
  | 7 => ⟨S_, .f32⟩
  | 8 => ⟨S16x4096x1, .f32⟩
  | 9 => ⟨S16x4096x1, .f32⟩
  | 10 => ⟨S_, .f32⟩
  | 11 => ⟨S16x4096x1, .f32⟩
  | 12 => ⟨S16x4096x1, .f32⟩
  | 13 => ⟨S16x4096x1, .f32⟩
  | 14 => ⟨S16x4096x1024, .f32⟩
  | 15 => ⟨S16x4096x1024, .f32⟩
  | 16 => ⟨S1x1x1024, .f32⟩
  | 17 => ⟨S16x4096x1024, .f32⟩
  | 18 => ⟨S16x4096x1024, .f32⟩
  | 19 => ⟨S16x4096x6144, .f32⟩
  | 20 => ⟨S16x4096x1024, .f32⟩
  | 21 => ⟨S16x4096x256, .f32⟩
  | 22 => ⟨S16x4096x256, .f32⟩
  | 23 => ⟨S16x4096x1280, .f32⟩
  | 24 => ⟨S16x4096x1280, .f32⟩
  | 25 => ⟨S16x4096x1024, .f32⟩
  | 26 => ⟨S16x4096x1024, .f32⟩
  | 27 => ⟨S4096, .i32⟩
  | 28 => ⟨S16x4096x8x128, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S4096, .f32⟩
  | 38 => ⟨S4096x1, .f32⟩
  | 39 => ⟨S1x16, .f32⟩
  | 40 => ⟨S4096x16, .f32⟩
  | 41 => ⟨S4096x16, .f32⟩
  | 42 => ⟨S4096x16, .f32⟩
  | 43 => ⟨S4096x16, .f32⟩
  | 44 => ⟨S1x4096x1x16, .f32⟩
  | 45 => ⟨S4096x16, .f32⟩
  | 46 => ⟨S1x4096x1x16, .f32⟩
  | 47 => ⟨S16x4096x8x32, .f32⟩
  | 48 => ⟨S16x4096x8x16, .f32⟩
  | 49 => ⟨S16x4096x8x16, .f32⟩
  | 50 => ⟨S16x4096x8x16, .f32⟩
  | 51 => ⟨S16x4096x8x16, .f32⟩
  | 52 => ⟨S16x4096x8x16, .f32⟩
  | 53 => ⟨S16x4096x8x16, .f32⟩
  | 54 => ⟨S16x4096x8x16, .f32⟩
  | 55 => ⟨S16x4096x8x16, .f32⟩
  | 56 => ⟨S16x4096x8x16, .f32⟩
  | 57 => ⟨S16x4096x8x16, .f32⟩
  | 58 => ⟨S16x4096x8x16, .f32⟩
  | 59 => ⟨S16x4096x8x16, .f32⟩
  | 60 => ⟨S16x4096x8x32, .f32⟩
  | 61 => ⟨S16x4096x8x96, .f32⟩
  | 62 => ⟨S16x4096x8x128, .f32⟩
  | 63 => ⟨S16x4096x1024, .f32⟩
  | 64 => ⟨S_, .f32⟩
  | 65 => ⟨S16x4096x1024, .f32⟩
  | 66 => ⟨S16x4096x1024, .f32⟩
  | 67 => ⟨S16x4096x2x128, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S4096, .f32⟩
  | 77 => ⟨S4096x1, .f32⟩
  | 78 => ⟨S1x16, .f32⟩
  | 79 => ⟨S4096x16, .f32⟩
  | 80 => ⟨S4096x16, .f32⟩
  | 81 => ⟨S4096x16, .f32⟩
  | 82 => ⟨S4096x16, .f32⟩
  | 83 => ⟨S1x4096x1x16, .f32⟩
  | 84 => ⟨S4096x16, .f32⟩
  | 85 => ⟨S1x4096x1x16, .f32⟩
  | 86 => ⟨S16x4096x2x32, .f32⟩
  | 87 => ⟨S16x4096x2x16, .f32⟩
  | 88 => ⟨S16x4096x2x16, .f32⟩
  | 89 => ⟨S16x4096x2x16, .f32⟩
  | 90 => ⟨S16x4096x2x16, .f32⟩
  | 91 => ⟨S16x4096x2x16, .f32⟩
  | 92 => ⟨S16x4096x2x16, .f32⟩
  | 93 => ⟨S16x4096x2x16, .f32⟩
  | 94 => ⟨S16x4096x2x16, .f32⟩
  | 95 => ⟨S16x4096x2x16, .f32⟩
  | 96 => ⟨S16x4096x2x16, .f32⟩
  | 97 => ⟨S16x4096x2x16, .f32⟩
  | 98 => ⟨S16x4096x2x16, .f32⟩
  | 99 => ⟨S16x4096x2x32, .f32⟩
  | 100 => ⟨S16x4096x2x96, .f32⟩
  | 101 => ⟨S16x4096x2x128, .f32⟩
  | 102 => ⟨S16x4096x256, .f32⟩
  | 103 => ⟨S2x8x4096x10x128, .f32⟩
  | 104 => ⟨S2x10x4096x8x128, .f32⟩
  | 105 => ⟨S2x10x32768x128, .f32⟩
  | 106 => ⟨S16x4096x1024, .bf16⟩
  | 107 => ⟨S16x4096x256, .bf16⟩
  | 108 => ⟨S16x4096x256, .bf16⟩
  | 109 => ⟨S16x4096x1280, .f32⟩
  | 110 => ⟨S16x4096x1280, .f32⟩
  | 111 => ⟨S_, .f32⟩
  | 112 => ⟨S16x4096x1280, .f32⟩
  | 113 => ⟨S16x4096x1280, .f32⟩
  | 114 => ⟨S16x4096x1280, .f32⟩
  | 115 => ⟨S_, .f32⟩
  | 116 => ⟨S16x4096x1280, .f32⟩
  | 117 => ⟨S16x4096x1280, .f32⟩
  | 118 => ⟨S16x4096x1280, .f32⟩
  | 119 => ⟨S_, .f32⟩
  | 120 => ⟨S16x4096x1280, .f32⟩
  | 121 => ⟨S16x4096x1280, .f32⟩
  | 122 => ⟨S_, .f32⟩
  | 123 => ⟨S16x4096x1280, .f32⟩
  | 124 => ⟨S16x4096x1280, .f32⟩
  | 125 => ⟨S16x4096x1280, .f32⟩
  | 126 => ⟨S16x4096x1280, .bf16⟩
  | 127 => ⟨S16x4096x1024, .f32⟩
  | _ => ⟨S16x4096x1024, .f32⟩

abbrev hbmTy0_1 (i : Nat) : BufTy := match i % 128 with
  | 0 => ⟨S16x4096x1024, .f32⟩
  | 1 => ⟨S_, .f32⟩
  | 2 => ⟨S16x4096x1024, .f32⟩
  | 3 => ⟨S16x4096x1024, .f32⟩
  | 4 => ⟨S_, .f32⟩
  | 5 => ⟨S16x4096x1024, .f32⟩
  | 6 => ⟨S16x4096x1024, .f32⟩
  | 7 => ⟨S16x4096x1024, .bf16⟩
  | 8 => ⟨S16x4096x1024, .f32⟩
  | 9 => ⟨S16x4096x1024, .f32⟩
  | 10 => ⟨S_, .f32⟩
  | 11 => ⟨S16x4096x1024, .f32⟩
  | 12 => ⟨S16x4096x1024, .f32⟩
  | 13 => ⟨S_, .f32⟩
  | 14 => ⟨S16x4096x1024, .f32⟩
  | 15 => ⟨S16x4096x1024, .f32⟩
  | 16 => ⟨S16x4096x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_5 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_cst_7 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_cst_8 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_cst_9 : Ref sig .tc := ⟨.hbm, 119, rfl⟩
abbrev main_v106 : Ref sig .tc := ⟨.hbm, 120, rfl⟩
abbrev main_v107 : Ref sig .tc := ⟨.hbm, 121, rfl⟩
abbrev main_cst_10 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_cst_11 : Ref sig .tc := ⟨.hbm, 129, rfl⟩
abbrev main_v114 : Ref sig .tc := ⟨.hbm, 130, rfl⟩
abbrev main_v115 : Ref sig .tc := ⟨.hbm, 131, rfl⟩
abbrev main_cst_12 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_cst_13 : Ref sig .tc := ⟨.hbm, 138, rfl⟩
abbrev main_v121 : Ref sig .tc := ⟨.hbm, 139, rfl⟩
abbrev main_v122 : Ref sig .tc := ⟨.hbm, 140, rfl⟩
abbrev main_cst_14 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩

abbrev nD : Nat := 1
abbrev τ : Topo := Topo.v7x

variable {F : FTy → Type} [FloatOps F]
-- ==== Proof.AttnRow.lean ====
module

public import Idealize.ShloMosaic.PureOps.Ideal

@[expose] public section

noncomputable section

open Idealize.ShloMosaic

namespace Cert.AttnRow

/-- Which keys a query of block `n` sees: at most 128 away, and inside the sequence. -/
def Sees (n r c : ℕ) : Prop := (r ≤ c ∧ c ≤ r + 256) ∧ 128 ≤ n * 128 + c ∧ n * 128 + c < 4224

instance (n r c : ℕ) : Decidable (Sees n r c) := inferInstanceAs (Decidable (_ ∧ _))

/-- A query's scores with its keys, the unseen ones at minus infinity. -/
def score (seen : Fin 384 → Prop) [DecidablePred seen] (K : Fin 384 → Fin 128 → EReal) (q : Fin 128 → EReal) (c : Fin 384) : EReal :=
  if seen c then ∑ d, K c d * q d else ⊥

/-- The largest of the scores and the sink. -/
def peak (f : Fin 384 → EReal) (s : EReal) : EReal := max (Finset.univ.fold max ⊥ f) s

/-- The sum of the exponentials, the sink's with them. -/
def mass (f : Fin 384 → EReal) (s : EReal) : EReal := ∑ c, Ideal.exp (f c - peak f s) + Ideal.exp (s - peak f s)

/-- The values weighted by the quotients. -/
def inside (f : Fin 384 → EReal) (s : EReal) (V : Fin 384 → EReal) : EReal :=
  ∑ c, V c * Ideal.div (Ideal.exp (f c - peak f s)) (mass f s)

/-- The quotient of the weighted values. -/
def outside (f : Fin 384 → EReal) (s : EReal) (V : Fin 384 → EReal) : EReal :=
  Ideal.div (∑ c, Ideal.exp (f c - peak f s) * V c) (mass f s)

/-- The same seen keys give the same scores. -/
theorem score_congr {P P' : Fin 384 → Prop} [DecidablePred P] [DecidablePred P'] (K : Fin 384 → Fin 128 → EReal) (q : Fin 128 → EReal)
    (hP : ∀ c, P c ↔ P' c) : score P K q = score P' K q :=
  funext fun c => if_congr (hP c) rfl rfl

/-- The same parts give the same result. -/
theorem outside_congr {P P' : Fin 384 → Prop} [DecidablePred P] [DecidablePred P'] {K K' : Fin 384 → Fin 128 → EReal} {q q' : Fin 128 → EReal} {s s' : EReal}
    {V V' : Fin 384 → EReal} (hP : ∀ c, P c ↔ P' c) (hK : ∀ c d, K c d = K' c d) (hq : ∀ d, q d = q' d) (hs : s = s') (hV : ∀ c, V c = V' c) :
    outside (score P K q) s V = outside (score P' K' q') s' V' := by
  rw [score_congr K q hP]
  obtain rfl : K = K' := funext₂ hK
  obtain rfl : q = q' := funext hq
  obtain rfl : V = V' := funext hV
  subst hs
  rfl

/-- A finite number. -/
def IsReal (x : EReal) : Prop := x ≠ ⊥ ∧ x ≠ ⊤

/-- A finite number is a real one. -/
theorem IsReal.exists {x : EReal} (h : IsReal x) : ∃ r : ℝ, x = r := ⟨x.toReal, (EReal.coe_toReal h.2 h.1).symm⟩

/-- A sum of reals is real. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A sum times a nonnegative real. -/
theorem sum_mul_coe {ι : Type} [Fintype ι] (f : ι → EReal) (x : ℝ) (hx : 0 ≤ x) : (∑ i, f i) * (x : EReal) = ∑ i, f i * (x : EReal) := by
  classical
  induction (Finset.univ : Finset ι) using Finset.induction_on with
  | empty => simp
  | insert a s ha ih =>
    rw [Finset.sum_insert ha, Finset.sum_insert ha,
      EReal.right_distrib_of_nonneg_of_ne_top (EReal.coe_nonneg.2 hx) (EReal.coe_ne_top x), ih]

/-- Finite keys and a finite query: a seen key's score is real. -/
theorem score_seen (seen : Fin 384 → Prop) [DecidablePred seen] (K : Fin 384 → Fin 128 → EReal) (q : Fin 128 → EReal) (c : Fin 384)
    (h : seen c) (hK : ∀ d, IsReal (K c d)) (hq : ∀ d, IsReal (q d)) : ∃ r : ℝ, score seen K q c = r := by
  choose k hk using fun d => (hK d).exists
  choose p hp using fun d => (hq d).exists
  refine ⟨∑ d, k d * p d, ?_⟩
  simp only [score, if_pos h, hk, hp, coe_sum, EReal.coe_mul]

/-- With a finite sink and no score at plus infinity the maximum is real. -/
theorem peak_real (f : Fin 384 → EReal) (s : EReal) (hf : ∀ c, f c ≠ ⊤) (hs : IsReal s) : ∃ r : ℝ, peak f s = r := by
  have hlt : Finset.univ.fold max ⊥ f < ⊤ := (Finset.fold_max_lt ⊤).2 ⟨bot_lt_top, fun c _ => lt_top_iff_ne_top.2 (hf c)⟩
  refine IsReal.exists ⟨?_, ?_⟩
  · exact ne_bot_of_le_ne_bot hs.1 (le_max_right _ _)
  · exact ne_of_lt (max_lt hlt (lt_top_iff_ne_top.2 hs.2))

/-- Dividing inside the weighted sum and after it agree, on finite scores and whatever the unseen keys and values are. -/
theorem inside_eq_outside (seen : Fin 384 → Prop) [DecidablePred seen] (K K' : Fin 384 → Fin 128 → EReal) (q : Fin 128 → EReal) (s : EReal)
    (V V' : Fin 384 → EReal) (hK : ∀ c, seen c → ∀ d, K c d = K' c d) (hV : ∀ c, seen c → V c = V' c)
    (fK : ∀ c, seen c → ∀ d, IsReal (K c d)) (fq : ∀ d, IsReal (q d)) (fs : IsReal s) :
    inside (score seen K q) s V = outside (score seen K' q) s V' := by
  have e : score seen K' q = score seen K q := funext fun c => by
    unfold score
    split_ifs with h
    · exact Finset.sum_congr rfl fun d _ => by rw [hK c h d]
    · rfl
  rw [e]
  have hs (c : Fin 384) (h : seen c) := score_seen seen K q c h (fK c h) fq
  have hn (c : Fin 384) (h : ¬ seen c) : score seen K q c = ⊥ := if_neg h
  generalize score seen K q = f at hs hn
  obtain ⟨t, ht⟩ := peak_real f s (fun c => by
    by_cases h : seen c
    · obtain ⟨r, hr⟩ := hs c h
      rw [hr]; exact EReal.coe_ne_top r
    · rw [hn c h]; exact bot_ne_top) fs
  obtain ⟨z, rfl⟩ := fs.exists
  have hp (c : Fin 384) : ∃ p : ℝ, 0 ≤ p ∧ (¬ seen c → p = 0) ∧ Ideal.exp (f c - peak f z) = p := by
    by_cases h : seen c
    · obtain ⟨r, hr⟩ := hs c h
      exact ⟨Real.exp (r - t), (Real.exp_pos _).le, fun g => absurd h g, by rw [hr, ht, ← EReal.coe_sub, Ideal.exp_coe]⟩
    · exact ⟨0, le_rfl, fun _ => rfl, by rw [hn c h, ht, EReal.bot_sub, Ideal.exp_bot, EReal.coe_zero]⟩
  choose p p0 pn hp using hp
  have hm : mass f z = ((∑ c, p c + Real.exp (z - t) : ℝ) : EReal) := by
    simp only [mass, hp]
    rw [ht, ← EReal.coe_sub, Ideal.exp_coe, EReal.coe_add, coe_sum]
  have hM : 0 < ∑ c, p c + Real.exp (z - t) := add_pos_of_nonneg_of_pos (Finset.sum_nonneg fun c _ => p0 c) (Real.exp_pos _)
  unfold inside outside
  rw [hm]
  generalize ∑ c, p c + Real.exp (z - t) = M at hM
  simp only [hp, Ideal.div_coe hM.ne']
  rw [sum_mul_coe _ _ (one_div_nonneg.2 hM.le)]
  refine Finset.sum_congr rfl fun c _ => ?_
  by_cases h : seen c
  · rw [hV c h, ← mul_assoc, mul_comm (V' c)]
  · rw [pn c h]; simp

/-- A position's key or value among the 384 of block `n` and its neighbours, zero past the ends. -/
def place (k : Fin 4096 → EReal) (n : Fin 32) (c : Fin 384) : EReal :=
  if h : 128 ≤ n.val * 128 + c.val ∧ n.val * 128 + c.val < 4224 then k ⟨n.val * 128 + c.val - 128, by omega⟩ else 0

/-- The attention of one head at query `r` of block `n` and lane `x`, head `hh` of group `g`. -/
def result (q : Fin 4096 → Fin 1024 → EReal) (k v : Fin 4096 → Fin 256 → EReal) (s : Fin 8 → EReal) (n : Fin 32) (g : Fin 2) (hh : Fin 4)
    (r x : Fin 128) : EReal :=
  inside (score (fun c => Sees n.val r.val c.val) (fun c d => place (fun p => k p ⟨g.val * 128 + d.val, by omega⟩) n c)
      (fun d => q ⟨n.val * 128 + r.val, by omega⟩ ⟨g.val * 512 + hh.val * 128 + d.val, by omega⟩)) (s ⟨g.val * 4 + hh.val, by omega⟩)
    (fun c => place (fun p => v p ⟨g.val * 128 + x.val, by omega⟩) n c)

end Cert.AttnRow

end
-- ==== Proof.AttnBlock.lean ====
module

public import proofs.«01_k».proof.Proof.Gen.AttnIdeal.Skeleton
public import proofs.«01_k».proof.Proof.AttnRow
public import Idealize.ShloMosaic.Lib.Pointwise
public import Idealize.ShloMosaic.Lib.WordCmp
public import Idealize.ShloMosaic.Lib.Tactic.CleanTypes

@[expose] public section

set_option maxRecDepth 16384

noncomputable section

open Idealize.ShloMosaic Idealize.ShloMosaic.TcCoe Idealize.SL.Sem

namespace Cert.AttnIdeal.Block

open Cert.AttnIdeal Cert.AttnIdeal.Gen
open Cert.AttnRow

/-- The key index along a row of scores. -/
def keyNo : IVec S512x384 32 := iota .tc S512x384 32 [1] iota_S512x384_d1_w32

/-- The head of each stacked row. -/
def headNo : IVec S512x1 32 := k0_pay8 (iota .tc S512x1 32 [0] iota_S512x1_d0_w32) 128#32

/-- The first key each row sees, in the block of number `n`. -/
def lower (n : BitVec 32) : IVec S512x384 32 :=
  maxsi k0_pay7 (broadcast S512x384 (Scalar.select (Scalar.cmpi .eq n 0#32) 128#32 0#32))

/-- The last key each row sees, in the block of number `n`. -/
def upper (n : BitVec 32) : IVec S512x384 32 :=
  minsi (addi k0_pay7 (broadcast S512x384 256#32)) (broadcast S512x384 (Scalar.select (Scalar.cmpi .eq n 31#32) 255#32 383#32))

/-- The scores, with the unseen keys at the mask's value. -/
def scores (n : BitVec 32) (ks : FVec Ideal S384x128 .bf16) (qs : FVec Ideal S512x128 .bf16) : FVec Ideal S512x384 .f32 :=
  select (cmpi .sge keyNo (lower n)) (select (cmpi .sle keyNo (upper n))
    (matmul dot_S512x128_S384x128_S512x384_1_1_0_0_n_n none qs ks (constant S512x384 .f32 0x00000000#32))
    (broadcast S512x384 (Named.named κ "mask" 0xF149F2CA#32))) (broadcast S512x384 (Named.named κ "mask" 0xF149F2CA#32))

/-- Each row's sink, by its head. -/
def sink (s : Fin 4 → EReal) : FVec Ideal S512x1 .f32 :=
  select (cmpi .eq headNo (broadcast S512x1 3#32)) (broadcast S512x1 (s 3)) (select (cmpi .eq headNo (broadcast S512x1 2#32)) (broadcast S512x1 (s 2))
    (select (cmpi .eq headNo (broadcast S512x1 1#32)) (broadcast S512x1 (s 1)) (select (cmpi .eq headNo (broadcast S512x1 0#32)) (broadcast S512x1 (s 0))
      (broadcast S512x1 (Scalar.ofBits .f32 0x00000000#32)))))

/-- The row maximum. -/
def most (sc : FVec Ideal S512x384 .f32) (sk : FVec Ideal S512x1 .f32) : FVec Ideal S512x1 .f32 :=
  maximumf (shapeCast S512x1 (multiReduction .maximumf [1] S512 sc 0xFF800000#32 reduces_S512x384_S512 (.inl rfl) rfl) shapeCasts_S512_S512x1) sk

/-- The exponentials. -/
def expo (sc : FVec Ideal S512x384 .f32) (sk : FVec Ideal S512x1 .f32) : FVec Ideal S512x384 .f32 :=
  exp (subf sc (broadcastTo S512x384 (most sc sk) broadcasts_S512x1_S512x384))

/-- The weighted values over the sum. -/
def mix (sc : FVec Ideal S512x384 .f32) (sk : FVec Ideal S512x1 .f32) (vs : FVec Ideal S384x128 .bf16) : FVec Ideal S512x128 .f32 :=
  divf (matmul dot_S512x384_S384x128_S512x128_1_0_0_1_n_n none (truncf .bf16 (expo sc sk) bitsLt_bf16_f32) vs (constant S512x128 .f32 0x00000000#32))
    (broadcastTo S512x128 (addf (shapeCast S512x1 (multiReduction .add [1] S512 (expo sc sk) 0x00000000#32 reduces_S512x384_S512 (.inl rfl) rfl)
      shapeCasts_S512_S512x1) (exp (subf sk (most sc sk)))) broadcasts_S512x1_S512x128)

/-- One block of queries for the heads of one group, keys and values cut at row `o` and column `p`. -/
def block (n : BitVec 32) (o p : ℕ) (h : S768x256.Slices ![o, p] S384x128) (kc vc : FVec Ideal S768x256 .bf16)
    (q : Fin 4 → FVec Ideal S1x128x128 .bf16) (s : Fin 4 → EReal) : FVec Ideal S512x128 .f32 :=
  mix (scores n (extractStridedSlice S384x128 ![o, p] kc h) (k0_pay82 (q 0) (q 1) (q 2) (q 3))) (sink s) (extractStridedSlice S384x128 ![o, p] vc h)

/-- Minus infinity, from its word. -/
theorem word_bot : Ideal.ofBits .f32 0xFF800000#32 = (⊥ : EReal) := by simp [Ideal.ofBits, Ideal.ieee]

/-- The mask's value is minus infinity. -/
theorem mask_bot : (Named.named κ "mask" 0xF149F2CA#32 : Ideal .f32) = (⊥ : EReal) :=
  IdealRules.named_const.ideal_named_scalar _ _ _ _ rfl

/-- A stacked row's query index. -/
theorem row_apply (R : Fin 512) (c : Fin 384) : k0_pay7 (ix2 R c) = BitVec.ofNat 32 (R.val % 128) := by
  pointwise [k0_pay7]
  revert R
  decide +kernel

/-- A stacked row's head. -/
theorem headNo_apply (R : Fin 512) : headNo (ix2 R 0) = BitVec.ofNat 32 (R.val / 128) := by
  pointwise [headNo, k0_pay8]
  revert R
  decide +kernel

/-- The first key a row sees. -/
theorem lower_apply (n : Fin 32) (R : Fin 512) (c : Fin 384) :
    lower (BitVec.ofNat 32 n.val) (ix2 R c) = BitVec.ofNat 32 (if n.val = 0 then 128 else R.val % 128) := by
  pointwise [lower]
  rw [row_apply]
  have h : ∀ r : Fin 128, ∀ n : Fin 32, IntOp.maxsi (BitVec.ofNat 32 r.val) (Scalar.select (Scalar.cmpi .eq (BitVec.ofNat 32 n.val) 0#32) 128#32 0#32)
    = BitVec.ofNat 32 (if n.val = 0 then 128 else r.val) := by decide +kernel
  exact h ⟨R.val % 128, by omega⟩ n

/-- The last key a row sees. -/
theorem upper_apply (n : Fin 32) (R : Fin 512) (c : Fin 384) :
    upper (BitVec.ofNat 32 n.val) (ix2 R c) = BitVec.ofNat 32 (if n.val = 31 then 255 else R.val % 128 + 256) := by
  pointwise [upper]
  rw [row_apply]
  have h : ∀ r : Fin 128, ∀ n : Fin 32, IntOp.minsi (IntOp.addi (BitVec.ofNat 32 r.val) 256#32)
      (Scalar.select (Scalar.cmpi .eq (BitVec.ofNat 32 n.val) 31#32) 255#32 383#32)
    = BitVec.ofNat 32 (if n.val = 31 then 255 else r.val + 256) := by decide +kernel
  exact h ⟨R.val % 128, by omega⟩ n

/-- Two choices with the same last resort are one choice of both. -/
theorem select_two (P Q S : Prop) [Decidable P] [Decidable Q] [Decidable S] (a b z : EReal) {w : EReal} (hz : w = z) (h : P ∧ Q ↔ S) (hab : a = b) :
    Scalar.select (BitVec.ofBool (decide P)) (Scalar.select (BitVec.ofBool (decide Q)) a w) w = if S then b else z := by
  subst hz hab
  by_cases hp : P <;> by_cases hq : Q <;> simp [Scalar.select, ← h, hp, hq]

/-- A row's scores. -/
theorem scores_apply (n : Fin 32) (ks : FVec Ideal S384x128 .bf16) (qs : FVec Ideal S512x128 .bf16) (R : Fin 512) (c : Fin 384) :
    scores (BitVec.ofNat 32 n.val) ks qs (ix2 R c)
      = score (fun c => Sees n.val (R.val % 128) c.val) (fun c d => ks (ix2 c d)) (fun d => qs (ix2 R d)) c := by
  pointwise [scores, keyNo]
  rw [lower_apply, upper_apply, WordCmp.cmpi_sge_ofNat (by omega) (by split_ifs <;> omega), WordCmp.cmpi_sle_ofNat (by omega) (by split_ifs <;> omega)]
  refine select_two _ _ _ _ _ _ mask_bot ?_ (Finset.sum_congr rfl fun d _ => mul_comm _ _)
  unfold Sees
  split_ifs <;> omega

/-- A row's sink. -/
theorem sink_apply (s : Fin 4 → EReal) (hh : Fin 4) (r : Fin 128) : sink s (ix2 ⟨hh.val * 128 + r.val, by omega⟩ 0) = s hh := by
  pointwise [sink]
  rw [headNo_apply]
  have e : (hh.val * 128 + r.val) / 128 = hh.val := by omega
  simp only [e]
  fin_cases hh <;> rfl

/-- A row's maximum. -/
theorem most_apply (sc : FVec Ideal S512x384 .f32) (sk : FVec Ideal S512x1 .f32) (R : Fin 512) :
    most sc sk (ix2 R 0) = peak (fun c => sc (ix2 R c)) (sk (ix2 R 0)) := by
  pointwise [most]
  simp only [Ideal.ofBits_def, word_bot]
  rfl

/-- A row's exponentials. -/
theorem expo_apply (sc : FVec Ideal S512x384 .f32) (sk : FVec Ideal S512x1 .f32) (R : Fin 512) (c : Fin 384) :
    expo sc sk (ix2 R c) = Ideal.exp (sc (ix2 R c) - peak (fun c => sc (ix2 R c)) (sk (ix2 R 0))) := by
  pointwise [expo]
  rw [most_apply]

/-- A row's result. -/
theorem mix_apply (sc : FVec Ideal S512x384 .f32) (sk : FVec Ideal S512x1 .f32) (vs : FVec Ideal S384x128 .bf16) (R : Fin 512) (x : Fin 128) :
    mix sc sk vs (ix2 R x) = outside (fun c => sc (ix2 R c)) (sk (ix2 R 0)) (fun c => vs (ix2 c x)) := by
  pointwise [mix]
  simp only [most_apply, expo_apply]
  rfl

/-- A query's row in the four heads stacked. -/
theorem stack_apply (q : Fin 4 → FVec Ideal S1x128x128 .bf16) (hh : Fin 4) (r d : Fin 128) :
    k0_pay82 (q 0) (q 1) (q 2) (q 3) (ix2 ⟨hh.val * 128 + r.val, by omega⟩ d) = q hh (ix3 0 r d) := by
  have at' (g : FVec Ideal S1x128x128 .bf16) (p : ℕ) (hp : p < 128) (e : p = r.val) : g (ix3 0 ⟨p, hp⟩ d) = g (ix3 0 r d) := by subst e; rfl
  fin_cases hh
  all_goals pointwise [k0_pay82]
  all_goals
    split_ifs
    all_goals first | omega | exact at' _ _ _ (by omega)

/-- A block's result at a head's query and lane. -/
theorem block_apply (n : Fin 32) (o p : ℕ) (h : S768x256.Slices ![o, p] S384x128) (ho : o + 384 ≤ 768) (hp : p + 128 ≤ 256) (kc vc : FVec Ideal S768x256 .bf16)
    (q : Fin 4 → FVec Ideal S1x128x128 .bf16) (s : Fin 4 → EReal) (hh : Fin 4) (r x : Fin 128) :
    block (BitVec.ofNat 32 n.val) o p h kc vc q s (ix2 ⟨hh.val * 128 + r.val, by omega⟩ x)
      = outside (score (fun c => Sees n.val r.val c.val) (fun c d => kc (ix2 ⟨o + c.val, by omega⟩ ⟨p + d.val, by omega⟩)) (fun d => q hh (ix3 0 r d)))
          (s hh) (fun c => vc (ix2 ⟨o + c.val, by omega⟩ ⟨p + x.val, by omega⟩)) := by
  unfold block
  rw [mix_apply]
  have e : (hh.val * 128 + r.val) % 128 = r.val := by omega
  simp only [scores_apply, sink_apply, stack_apply, e]
  have cut (u : FVec Ideal S768x256 .bf16) (c : Fin 384) (d : Fin 128) :
      extractStridedSlice S384x128 ![o, p] u h (ix2 c d) = u (ix2 ⟨o + c.val, by omega⟩ ⟨p + d.val, by omega⟩) := by
    pointwise
  simp only [cut]

/-- One head's rows of a block, as stored. -/
def head (o : ℕ) (h : S512x128.Slices ![o, 0] S128x128) (v : FVec Ideal S512x128 .f32) : FVec Ideal S1x128x128 .bf16 :=
  shapeCast S1x128x128 (truncf .bf16 (extractStridedSlice S128x128 ![o, 0] v h) bitsLt_bf16_f32) shapeCasts_S128x128_S1x128x128

/-- A block's number, as the kernel computes it. -/
theorem number (i : Fin 8) (j : ℕ) (hj : j < 4) : Scalar.addi (Scalar.muli (BitVec.ofNat 32 i.val) 4#32) (BitVec.ofNat 32 j)
    = BitVec.ofNat 32 (i.val * 4 + j) :=
  (by decide +kernel : ∀ i : Fin 8, ∀ j : Fin 4, Scalar.addi (Scalar.muli (BitVec.ofNat 32 i.val) 4#32) (BitVec.ofNat 32 j.val)
    = BitVec.ofNat 32 (i.val * 4 + j.val)) i ⟨j, hj⟩

/-- The kernel's result at a query and column of a block, from its input blocks, the keys and values joined. -/
def entry (i : Fin 8) (kc vc : FVec Ideal S768x256 .bf16) (q : FVec Ideal S1x512x1024 .bf16) (s : FVec Ideal S8 .f32) (p : Fin 512) (w : Fin 1024) : EReal :=
  outside (score (fun c => Sees (i.val * 4 + p.val / 128) (p.val % 128) c.val)
      (fun c d => kc (ix2 ⟨p.val / 128 * 128 + c.val, by omega⟩ ⟨w.val / 512 * 128 + d.val, by omega⟩))
      (fun d => q (ix3 0 p ⟨w.val / 128 * 128 + d.val, by omega⟩)))
    (s (ix1 ⟨w.val / 128, by omega⟩))
    (fun c => vc (ix2 ⟨p.val / 128 * 128 + c.val, by omega⟩ ⟨w.val / 512 * 128 + w.val % 128, by omega⟩))

/-- The kernel's result block. -/
def G (i : Fin 8) (kc vc : FVec Ideal S768x256 .bf16) (q : FVec Ideal S1x512x1024 .bf16) (s : FVec Ideal S8 .f32) : FVec Ideal S1x512x1024 .bf16 := fun y =>
  entry i kc vc q s (y 1) (y 2)

/-- Equal places, equal entries, along one axis. -/
theorem at1 (u : FVec Ideal S8 .f32) {a a' : ℕ} {ha : a < 8} {ha' : a' < 8} (e : a = a') : u (ix1 ⟨a, ha⟩) = u (ix1 ⟨a', ha'⟩) := by subst e; rfl

/-- Equal places, equal entries, along two axes. -/
theorem at2 (u : FVec Ideal S768x256 .bf16) {a a' b b' : ℕ} {ha : a < 768} {ha' : a' < 768} {hb : b < 256} {hb' : b' < 256} (e : a = a') (f : b = b') :
    u (ix2 ⟨a, ha⟩ ⟨b, hb⟩) = u (ix2 ⟨a', ha'⟩ ⟨b', hb'⟩) := by subst e f; rfl

/-- Equal places, equal entries, in a block of queries. -/
theorem at3 (u : FVec Ideal S1x512x1024 .bf16) {a b b' : ℕ} {ha : a < 512} {a' : Fin 512} {hb : b < 1024} {hb' : b' < 1024} (e : a = a'.val) (f : b = b') :
    u (ix3 0 ⟨a, ha⟩ ⟨b, hb⟩) = u (ix3 0 a' ⟨b', hb'⟩) := by subst f; obtain rfl : a' = ⟨a, ha⟩ := Fin.ext e.symm; rfl

/-- One stored piece is the result block's. -/
theorem chunk (i : Fin 8) (j g : ℕ) (hh : Fin 4) (hj : j < 4) (hg : g < 2) (kc vc : FVec Ideal S768x256 .bf16) (q : FVec Ideal S1x512x1024 .bf16)
    (s : FVec Ideal S8 .f32) (h : S768x256.Slices ![j * 128, g * 128] S384x128) (h' : S512x128.Slices ![hh.val * 128, 0] S128x128)
    (iq : ∀ hh : Fin 4, ∀ a, (![0, j * 128, g * 512 + hh.val * 128] : Fin 3 → ℕ) a + S1x128x128.size a ≤ S1x512x1024.size a)
    (is : ∀ hh : Fin 4, ∀ a, (![g * 4 + hh.val] : Fin 1 → ℕ) a + S1.size a ≤ S8.size a) (hf : 0 < S1.numel) (x : S1x128x128.Idx) :
    head (hh.val * 128) h' (block (Scalar.addi (Scalar.muli (BitVec.ofNat 32 i.val) 4#32) (BitVec.ofNat 32 j)) (j * 128) (g * 128) h kc vc
        (fun hh => View.ld (Val := Elt Ideal) (e' := .bf16) q (Rect.unit (s := S1x512x1024) ![0, j * 128, g * 512 + hh.val * 128] S1x128x128.size (iq hh)))
        (fun hh => View.ld (Val := Elt Ideal) (e' := .f32) s (Rect.unit (s := S8) ![g * 4 + hh.val] S1.size (is hh)) (Shape.Idx.first hf))) x
      = G i kc vc q s ((Rect.unit (s := S1x512x1024) ![0, j * 128, g * 512 + hh.val * 128] S1x128x128.size (iq hh)).emb x) := by
  idx_vars x
  obtain rfl : x0 = 0 := Subsingleton.elim _ _
  have e : (Rect.unit (s := S1x512x1024) ![0, j * 128, g * 512 + hh.val * 128] S1x128x128.size (iq hh)).emb (ix3 0 x1 x2)
      = ix3 0 ⟨j * 128 + x1.val, by omega⟩ ⟨g * 512 + hh.val * 128 + x2.val, by omega⟩ := by
    funext a
    apply Fin.ext
    match a with
    | ⟨0, _⟩ => exact rfl
    | ⟨1, _⟩ => exact congrArg (j * 128 + ·) (Nat.one_mul _)
    | ⟨2, _⟩ => exact congrArg (g * 512 + hh.val * 128 + ·) (Nat.one_mul _)
  rw [e, number i j hj]
  have hd (v : FVec Ideal S512x128 .f32) : head (hh.val * 128) h' v (ix3 0 x1 x2) = v (ix2 ⟨hh.val * 128 + x1.val, by omega⟩ x2) := by
    pointwise [head]
  have hq (hh : Fin 4) (r d : Fin 128) : View.ld (Val := Elt Ideal) (e' := .bf16) q (Rect.unit (s := S1x512x1024) ![0, j * 128, g * 512 + hh.val * 128] S1x128x128.size (iq hh)) (ix3 0 r d)
      = q (ix3 0 ⟨j * 128 + r.val, by omega⟩ ⟨g * 512 + hh.val * 128 + d.val, by omega⟩) := by
    pointwise
  have hs (hh : Fin 4) : View.ld (Val := Elt Ideal) (e' := .f32) s (Rect.unit (s := S8) ![g * 4 + hh.val] S1.size (is hh)) (Shape.Idx.first hf)
      = s (ix1 ⟨g * 4 + hh.val, by omega⟩) := by
    rw [show Shape.Idx.first hf = ix1 0 from funext fun a => match a with | ⟨0, _⟩ => Subsingleton.elim (α := Fin 1) _ _]
    pointwise
  rw [hd, block_apply ⟨i.val * 4 + j, by omega⟩ (j * 128) (g * 128) h (by omega) (by omega)]
  simp only [hq, hs]
  show _ = entry i kc vc q s ⟨j * 128 + x1.val, _⟩ ⟨g * 512 + hh.val * 128 + x2.val, _⟩
  unfold entry
  refine outside_congr (fun c => ?_) (fun c d => at2 kc ?_ ?_) (fun d => at3 q ?_ ?_) (at1 s ?_) (fun c => at2 vc ?_ ?_)
  · dsimp only
    rw [show (j * 128 + x1.val) / 128 = j by omega, show (j * 128 + x1.val) % 128 = x1.val by omega]
  all_goals dsimp only
  all_goals omega

end Cert.AttnIdeal.Block

end
-- ==== Proof.AttnValue.lean ====
module

public import proofs.«01_k».proof.Proof.Gen.AttnIdeal.Value
public import proofs.«01_k».proof.Proof.AttnBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnIdeal.Row

open Cert.AttnIdeal Cert.AttnIdeal.Gen
open Cert.AttnRow

variable (m : (ℓ : Loc nD τ sig) → Buf (Elt Ideal) ℓ)

/-- Where each window lies at each grid step. -/
theorem idx : ∀ t : Fin cfg0.N, win0_0.index t = ![0] ∧ win0_1.index t = ![t.val / 8, t.val % 8, 0] ∧ win0_2.index t = ![t.val / 8, t.val % 8 * 4 - 1, 0]
    ∧ win0_3.index t = ![t.val / 8, t.val % 8, 0] ∧ win0_4.index t = ![t.val / 8, min (t.val % 8 * 4 + 4) 31, 0]
    ∧ win0_5.index t = ![t.val / 8, t.val % 8 * 4 - 1, 0]
    ∧ win0_6.index t = ![t.val / 8, t.val % 8, 0] ∧ win0_7.index t = ![t.val / 8, min (t.val % 8 * 4 + 4) 31, 0]
    ∧ win0_8.index t = ![t.val / 8, t.val % 8, 0] ∧ (grid0.coords t 1).val = t.val % 8 :=
  (by decide +kernel : ∀ t : Fin grid0.N, _)

/-- The attention over whole arrays. -/
def whole (q : FVec Ideal S16x4096x1024 .bf16) (k v : FVec Ideal S16x4096x256 .bf16) (s : FVec Ideal S8 .f32) : FVec Ideal S16x4096x1024 .bf16 := fun i =>
  have h1 : (i 1).val < 4096 := (i 1).isLt
  have h2 : (i 2).val < 1024 := (i 2).isLt
  result (fun p w => q (ix3 (i 0) p w)) (fun p w => k (ix3 (i 0) p w)) (fun p w => v (ix3 (i 0) p w)) (fun h => s (ix1 h))
    ⟨(i 1).val / 128, by omega⟩ ⟨(i 2).val / 512, by omega⟩ ⟨(i 2).val / 128 % 4, by omega⟩ ⟨(i 1).val % 128, by omega⟩ ⟨(i 2).val % 128, by omega⟩

/-- An entry of it. -/
theorem whole_apply (q : FVec Ideal S16x4096x1024 .bf16) (k v : FVec Ideal S16x4096x256 .bf16) (s : FVec Ideal S8 .f32) (b : Fin 16) (p : Fin 4096)
    (w : Fin 1024) : whole q k v s (ix3 b p w)
      = result (fun p w => q (ix3 b p w)) (fun p w => k (ix3 b p w)) (fun p w => v (ix3 b p w)) (fun h => s (ix1 h))
          ⟨p.val / 128, by omega⟩ ⟨w.val / 512, by omega⟩ ⟨w.val / 128 % 4, by omega⟩ ⟨p.val % 128, by omega⟩ ⟨w.val % 128, by omega⟩ := rfl

/-- Equal positions, equal entries. -/
theorem pos2 {W : ℕ} (u : FVec Ideal ⟨3, ![16, 4096, W]⟩ .bf16) (b : Fin 16) {a a' w w' : ℕ} {ha : a < 4096} {ha' : a' < 4096} {hw : w < W} {hw' : w' < W}
    (e : a = a') (e' : w = w') : u (ix3 b ⟨a, ha⟩ ⟨w, hw⟩) = u (ix3 b ⟨a', ha'⟩ ⟨w', hw'⟩) := by subst e e'; rfl

/-- The joined keys of a grid step, where inside the sequence. -/
theorem keys (c : Dev nD) (t : Fin 128) (p : Fin 768) (w : Fin 256) (h : 128 ≤ t.val % 8 * 512 + p.val) (h' : t.val % 8 * 512 + p.val < 4224) :
    k0_pay5 (iblk m c 2 t) (iblk m c 3 t) (iblk m c 4 t) (ix2 p w)
      = m ((c : Thread nD τ).loc main_arg1) (ix3 ⟨t.val / 8, by omega⟩ ⟨t.val % 8 * 512 + p.val - 128, by omega⟩ w) := by
  pointwise [k0_pay5]
  split_ifs
  all_goals first | omega | blk_point [iblk, V, idx t]

/-- The joined values of a grid step, where inside the sequence. -/
theorem vals (c : Dev nD) (t : Fin 128) (p : Fin 768) (w : Fin 256) (h : 128 ≤ t.val % 8 * 512 + p.val) (h' : t.val % 8 * 512 + p.val < 4224) :
    k0_pay6 (iblk m c 5 t) (iblk m c 6 t) (iblk m c 7 t) (ix2 p w)
      = m ((c : Thread nD τ).loc main_arg2) (ix3 ⟨t.val / 8, by omega⟩ ⟨t.val % 8 * 512 + p.val - 128, by omega⟩ w) := by
  pointwise [k0_pay6]
  split_ifs
  all_goals first | omega | blk_point [iblk, V, idx t]

/-- The queries of a grid step. -/
theorem queries (c : Dev nD) (t : Fin 128) (p : Fin 512) (w : Fin 1024) :
    iblk m c 1 t (ix3 0 p w) = m ((c : Thread nD τ).loc main_arg0) (ix3 ⟨t.val / 8, by omega⟩ ⟨t.val % 8 * 512 + p.val, by omega⟩ w) := by
  blk_point [iblk, V, idx t]

/-- The sinks of a grid step. -/
theorem sinks (c : Dev nD) (t : Fin 128) (h : Fin 8) : iblk m c 0 t (ix1 h) = m ((c : Thread nD τ).loc main_arg3) (ix1 h) := by
  blk_point [iblk, V, idx t]

/-- A grid step's result is the whole attention's, on finite queries, keys and sinks. -/
theorem entry_whole (c : Dev nD) (t : Fin 128) (p : Fin 512) (w : Fin 1024) (fq : ∀ i, IsReal (m ((c : Thread nD τ).loc main_arg0) i))
    (fk : ∀ i, IsReal (m ((c : Thread nD τ).loc main_arg1) i)) (fs : ∀ i, IsReal (m ((c : Thread nD τ).loc main_arg3) i)) :
    Block.entry ⟨t.val % 8, by omega⟩ (k0_pay5 (iblk m c 2 t) (iblk m c 3 t) (iblk m c 4 t)) (k0_pay6 (iblk m c 5 t) (iblk m c 6 t) (iblk m c 7 t))
        (iblk m c 1 t) (iblk m c 0 t) p w
      = whole (m ((c : Thread nD τ).loc main_arg0)) (m ((c : Thread nD τ).loc main_arg1)) (m ((c : Thread nD τ).loc main_arg2))
        (m ((c : Thread nD τ).loc main_arg3)) (ix3 ⟨t.val / 8, by omega⟩ ⟨t.val % 8 * 512 + p.val, by omega⟩ w) := by
  have en : (t.val % 8 * 512 + p.val) / 128 = t.val % 8 * 4 + p.val / 128 := by omega
  have er : (t.val % 8 * 512 + p.val) % 128 = p.val % 128 := by omega
  rw [whole_apply]
  unfold Block.entry result
  simp only [queries, sinks]
  refine Eq.trans ?_ (inside_eq_outside _ _ (fun c' d => k0_pay5 (iblk m c 2 t) (iblk m c 3 t) (iblk m c 4 t) (ix2 ⟨p.val / 128 * 128 + c'.val, by omega⟩ ⟨w.val / 512 * 128 + d.val, by omega⟩)) _ _ _
    (fun c' => k0_pay6 (iblk m c 5 t) (iblk m c 6 t) (iblk m c 7 t) (ix2 ⟨p.val / 128 * 128 + c'.val, by omega⟩ ⟨w.val / 512 * 128 + w.val % 128, by omega⟩))
    ?_ ?_ ?_ (fun d => fq _) (fs _)).symm
  · refine outside_congr (fun c' => ?_) (fun _ _ => rfl) (fun d => ?_) ?_ (fun _ => rfl)
    · rw [en, er]
    · exact pos2 _ _ (by omega) (by omega)
    · exact congrArg (fun h => m ((c : Thread nD τ).loc main_arg3) (ix1 h)) (Fin.ext (by dsimp only; omega))
  · intro c' h d
    have hs : 128 ≤ (t.val % 8 * 512 + p.val) / 128 * 128 + c'.val ∧ (t.val % 8 * 512 + p.val) / 128 * 128 + c'.val < 4224 := h.2
    rw [keys m c t _ _ (by dsimp only; omega) (by dsimp only; omega)]
    exact (dif_pos hs).trans (pos2 _ _ (by dsimp only; omega) rfl)
  · intro c' h
    have hs : 128 ≤ (t.val % 8 * 512 + p.val) / 128 * 128 + c'.val ∧ (t.val % 8 * 512 + p.val) / 128 * 128 + c'.val < 4224 := h.2
    rw [vals m c t _ _ (by dsimp only; omega) (by dsimp only; omega)]
    exact (dif_pos hs).trans (pos2 _ _ (by dsimp only; omega) rfl)
  · intro c' h d
    exact (congrArg IsReal (dif_pos h.2)).mpr (fk _)

/-- The same at a block's own position. -/
theorem block_whole (c : Dev nD) (t : Fin cfg0.N) (y : S1x512x1024.Idx) (fq : ∀ i, IsReal (m ((c : Thread nD τ).loc main_arg0) i))
    (fk : ∀ i, IsReal (m ((c : Thread nD τ).loc main_arg1) i)) (fs : ∀ i, IsReal (m ((c : Thread nD τ).loc main_arg3) i)) :
    Block.G (grid0.coords t 1) (k0_pay5 (iblk m c 2 t) (iblk m c 3 t) (iblk m c 4 t)) (k0_pay6 (iblk m c 5 t) (iblk m c 6 t) (iblk m c 7 t))
        (iblk m c 1 t) (iblk m c 0 t) y
      = whole (m ((c : Thread nD τ).loc main_arg0)) (m ((c : Thread nD τ).loc main_arg1)) (m ((c : Thread nD τ).loc main_arg2))
        (m ((c : Thread nD τ).loc main_arg3)) (((View.whole main_v0).slice (win0_8.rect t)).emb y) := by
  obtain ⟨z, p, w, rfl⟩ : ∃ (z : Fin 1) (p : Fin 512) (w : Fin 1024), y = ix3 z p w := ⟨y 0, y 1, y 2, eq_ix3 y⟩
  have ht : t.val < 128 := t.isLt
  have ei : ((View.whole main_v0).slice (win0_8.rect t)).emb (ix3 z p w)
      = (ix3 ⟨t.val / 8, by omega⟩ ⟨t.val % 8 * 512 + p.val, by omega⟩ w : S16x4096x1024.Idx) := by
    blk_ext [idx t]
  rw [ei, ← entry_whole m c t p w fq fk fs]
  have en : grid0.coords t 1 = (⟨t.val % 8, by omega⟩ : Fin 8) := Fin.ext (idx t).2.2.2.2.2.2.2.2.2
  rw [en]
  rfl

set_option maxHeartbeats 4000000 in
/-- The call's array, once its grid has run, is the whole attention's. -/
theorem final (c : Dev nD) (fq : ∀ i, IsReal (m ((c : Thread nD τ).loc main_arg0) i))
    (fk : ∀ i, IsReal (m ((c : Thread nD τ).loc main_arg1) i)) (fs : ∀ i, IsReal (m ((c : Thread nD τ).loc main_arg3) i)) : (dats m 0 c).arrAt 8 (cfgs 0).N
    = whole (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t _ y => ?_
  blk_simp
  rw [after0_8]
  unfold outsAt0
  frame_out
  refine (View.canon_apply_of_pieces (Block.G (grid0.coords t 1) (k0_pay5 (iblk m c 2 t) (iblk m c 3 t) (iblk m c 4 t))
    (k0_pay6 (iblk m c 5 t) (iblk m c 6 t) (iblk m c 7 t)) (iblk m c 1 t) (iblk m c 0 t)) _ (View.PiecesOf.mem ?_) _ ?_).trans ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    · exact Block.chunk (grid0.coords t 1) 3 1 3 (by omega) (by omega) _ _ (iblk m c 1 t) (iblk m c 0 t) (by decide) (by decide) (by decide) (by decide) (by decide)
    · exact Block.chunk (grid0.coords t 1) 3 1 2 (by omega) (by omega) _ _ (iblk m c 1 t) (iblk m c 0 t) (by decide) (by decide) (by decide) (by decide) (by decide)
    · exact Block.chunk (grid0.coords t 1) 3 1 1 (by omega) (by omega) _ _ (iblk m c 1 t) (iblk m c 0 t) (by decide) (by decide) (by decide) (by decide) (by decide)
    · exact Block.chunk (grid0.coords t 1) 3 1 0 (by omega) (by omega) _ _ (iblk m c 1 t) (iblk m c 0 t) (by decide) (by decide) (by decide) (by decide) (by decide)
    · exact Block.chunk (grid0.coords t 1) 3 0 3 (by omega) (by omega) _ _ (iblk m c 1 t) (iblk m c 0 t) (by decide) (by decide) (by decide) (by decide) (by decide)
    · exact Block.chunk (grid0.coords t 1) 3 0 2 (by omega) (by omega) _ _ (iblk m c 1 t) (iblk m c 0 t) (by decide) (by decide) (by decide) (by decide) (by decide)
    · exact Block.chunk (grid0.coords t 1) 3 0 1 (by omega) (by omega) _ _ (iblk m c 1 t) (iblk m c 0 t) (by decide) (by decide) (by decide) (by decide) (by decide)
    · exact Block.chunk (grid0.coords t 1) 3 0 0 (by omega) (by omega) _ _ (iblk m c 1 t) (iblk m c 0 t) (by decide) (by decide) (by decide) (by decide) (by decide)
    · exact Block.chunk (grid0.coords t 1) 2 1 3 (by omega) (by omega) _ _ (iblk m c 1 t) (iblk m c 0 t) (by decide) (by decide) (by decide) (by decide) (by decide)
    · exact Block.chunk (grid0.coords t 1) 2 1 2 (by omega) (by omega) _ _ (iblk m c 1 t) (iblk m c 0 t) (by decide) (by decide) (by decide) (by decide) (by decide)
    · exact Block.chunk (grid0.coords t 1) 2 1 1 (by omega) (by omega) _ _ (iblk m c 1 t) (iblk m c 0 t) (by decide) (by decide) (by decide) (by decide) (by decide)
    · exact Block.chunk (grid0.coords t 1) 2 1 0 (by omega) (by omega) _ _ (iblk m c 1 t) (iblk m c 0 t) (by decide) (by decide) (by decide) (by decide) (by decide)
    · exact Block.chunk (grid0.coords t 1) 2 0 3 (by omega) (by omega) _ _ (iblk m c 1 t) (iblk m c 0 t) (by decide) (by decide) (by decide) (by decide) (by decide)
    · exact Block.chunk (grid0.coords t 1) 2 0 2 (by omega) (by omega) _ _ (iblk m c 1 t) (iblk m c 0 t) (by decide) (by decide) (by decide) (by decide) (by decide)
    · exact Block.chunk (grid0.coords t 1) 2 0 1 (by omega) (by omega) _ _ (iblk m c 1 t) (iblk m c 0 t) (by decide) (by decide) (by decide) (by decide) (by decide)
    · exact Block.chunk (grid0.coords t 1) 2 0 0 (by omega) (by omega) _ _ (iblk m c 1 t) (iblk m c 0 t) (by decide) (by decide) (by decide) (by decide) (by decide)
    · exact Block.chunk (grid0.coords t 1) 1 1 3 (by omega) (by omega) _ _ (iblk m c 1 t) (iblk m c 0 t) (by decide) (by decide) (by decide) (by decide) (by decide)
    · exact Block.chunk (grid0.coords t 1) 1 1 2 (by omega) (by omega) _ _ (iblk m c 1 t) (iblk m c 0 t) (by decide) (by decide) (by decide) (by decide) (by decide)
    · exact Block.chunk (grid0.coords t 1) 1 1 1 (by omega) (by omega) _ _ (iblk m c 1 t) (iblk m c 0 t) (by decide) (by decide) (by decide) (by decide) (by decide)
    · exact Block.chunk (grid0.coords t 1) 1 1 0 (by omega) (by omega) _ _ (iblk m c 1 t) (iblk m c 0 t) (by decide) (by decide) (by decide) (by decide) (by decide)
    · exact Block.chunk (grid0.coords t 1) 1 0 3 (by omega) (by omega) _ _ (iblk m c 1 t) (iblk m c 0 t) (by decide) (by decide) (by decide) (by decide) (by decide)
    · exact Block.chunk (grid0.coords t 1) 1 0 2 (by omega) (by omega) _ _ (iblk m c 1 t) (iblk m c 0 t) (by decide) (by decide) (by decide) (by decide) (by decide)
    · exact Block.chunk (grid0.coords t 1) 1 0 1 (by omega) (by omega) _ _ (iblk m c 1 t) (iblk m c 0 t) (by decide) (by decide) (by decide) (by decide) (by decide)
    · exact Block.chunk (grid0.coords t 1) 1 0 0 (by omega) (by omega) _ _ (iblk m c 1 t) (iblk m c 0 t) (by decide) (by decide) (by decide) (by decide) (by decide)
    · exact Block.chunk (grid0.coords t 1) 0 1 3 (by omega) (by omega) _ _ (iblk m c 1 t) (iblk m c 0 t) (by decide) (by decide) (by decide) (by decide) (by decide)
    · exact Block.chunk (grid0.coords t 1) 0 1 2 (by omega) (by omega) _ _ (iblk m c 1 t) (iblk m c 0 t) (by decide) (by decide) (by decide) (by decide) (by decide)
    · exact Block.chunk (grid0.coords t 1) 0 1 1 (by omega) (by omega) _ _ (iblk m c 1 t) (iblk m c 0 t) (by decide) (by decide) (by decide) (by decide) (by decide)
    · exact Block.chunk (grid0.coords t 1) 0 1 0 (by omega) (by omega) _ _ (iblk m c 1 t) (iblk m c 0 t) (by decide) (by decide) (by decide) (by decide) (by decide)
    · exact Block.chunk (grid0.coords t 1) 0 0 3 (by omega) (by omega) _ _ (iblk m c 1 t) (iblk m c 0 t) (by decide) (by decide) (by decide) (by decide) (by decide)
    · exact Block.chunk (grid0.coords t 1) 0 0 2 (by omega) (by omega) _ _ (iblk m c 1 t) (iblk m c 0 t) (by decide) (by decide) (by decide) (by decide) (by decide)
    · exact Block.chunk (grid0.coords t 1) 0 0 1 (by omega) (by omega) _ _ (iblk m c 1 t) (iblk m c 0 t) (by decide) (by decide) (by decide) (by decide) (by decide)
    · exact Block.chunk (grid0.coords t 1) 0 0 0 (by omega) (by omega) _ _ (iblk m c 1 t) (iblk m c 0 t) (by decide) (by decide) (by decide) (by decide) (by decide)
  · exact View.cover_of_tiledL (s := S1x512x1024) _ S1x128x128.size (by sl_kernel_rfl) _
  · exact block_whole m c t y fq fk fs

end Cert.AttnIdeal.Row

end
-- ==== Proof.AttnRef.lean ====
module

public import proofs.«01_k».proof.Proof.Gen.AttnRefIdeal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.AttnRefIdeal.Row

open Cert.AttnRefIdeal Cert.AttnRefIdeal.Gen Cert.AttnRefIdeal.Value

/-- The rows in blocks of 128, with a block of zeros before and after. -/
def padded (x : FVec Ideal S16x4096x256 .bf16) : FVec Ideal S16x34x128x2x128 .f32 :=
  pad S16x34x128x2x128 ![0, 1, 0, 0, 0] ![0, 1, 0, 0, 0] ![0, 0, 0, 0, 0]
    (shapeCast S16x32x128x2x128 (shapeCast S16x4096x2x128 (extf .f32 x bitsLt_bf16_f32 : FVec Ideal S16x4096x256 .f32)
      shapeCasts_S16x4096x256_S16x4096x2x128) shapeCasts_S16x4096x2x128_S16x32x128x2x128)
    (sitofp (F := Ideal) .f32 (constantI S_ 32 0#32)) pads_S16x32x128x2x128_S16x34x128x2x128_000_110_000_000_000 h_S_

/-- Each block of 128 positions with its left and right neighbours, zeros past the ends. -/
def wide (x : FVec Ideal S16x4096x256 .bf16) : FVec Ideal S16x32x384x2x128 .f32 :=
  concatenate S16x32x384x2x128 2
    [⟨S16x32x128x2x128, extractStridedSlice S16x32x128x2x128 ![0, 0, 0, 0, 0] (padded x) slices_S16x34x128x2x128_S16x32x128x2x128_0_0_0_0_0⟩,
      ⟨S16x32x128x2x128, extractStridedSlice S16x32x128x2x128 ![0, 1, 0, 0, 0] (padded x) slices_S16x34x128x2x128_S16x32x128x2x128_0_1_0_0_0⟩,
      ⟨S16x32x128x2x128, extractStridedSlice S16x32x128x2x128 ![0, 2, 0, 0, 0] (padded x) slices_S16x34x128x2x128_S16x32x128x2x128_0_2_0_0_0⟩]
    concatenates_S16x32x128x2x128_S16x32x128x2x128_S16x32x128x2x128_S16x32x384x2x128_d2

/-- Which of a block's 384 keys each of its queries sees. -/
def near : IVec S32x128x384 1 :=
  (andi (andi (cmpi .sle (absi (subi (broadcastInDim S32x128x384 ![0, 1, 2] bcast_S32x1x384_S32x128x384_0_1_2 (addi
    (broadcastInDim S32x1x384 ![0, 1, 2] bcast_S32x1x1_S32x1x384_0_1_2 (muli (subi (broadcastInDim S32x1x1 ![0]
    bcast_S32_S32x1x1_0 (iotaInDim S32 32 0)) (broadcastInDim S32x1x1 ![] bcast_S_S32x1x1 (constantI S_ 32 1#32)))
    (broadcastInDim S32x1x1 ![] bcast_S_S32x1x1 (constantI S_ 32 128#32)))) (broadcastInDim S32x1x384 ![0, 1, 2]
    bcast_S1x1x384_S32x1x384_0_1_2 (broadcastInDim S1x1x384 ![2] bcast_S384_S1x1x384_2 (iotaInDim S384 32 0)))))
    (broadcastInDim S32x128x384 ![0, 1, 2] bcast_S32x128x1_S32x128x384_0_1_2 (addi (broadcastInDim S32x128x1 ![0, 1,
    2] bcast_S32x1x1_S32x128x1_0_1_2 (muli (broadcastInDim S32x1x1 ![0] bcast_S32_S32x1x1_0 (iotaInDim S32 32 0))
    (broadcastInDim S32x1x1 ![] bcast_S_S32x1x1 (constantI S_ 32 128#32)))) (broadcastInDim S32x128x1 ![0, 1, 2]
    bcast_S1x128x1_S32x128x1_0_1_2 (broadcastInDim S1x128x1 ![1] bcast_S128_S1x128x1_1 (iotaInDim S128 32 0)))))))
    (broadcastInDim S32x128x384 ![] bcast_S_S32x128x384 (constantI S_ 32 128#32))) (broadcastInDim S32x128x384 ![0,
    1, 2] bcast_S32x1x384_S32x128x384_0_1_2 (cmpi .sge (addi (broadcastInDim S32x1x384 ![0, 1, 2]
    bcast_S32x1x1_S32x1x384_0_1_2 (muli (subi (broadcastInDim S32x1x1 ![0] bcast_S32_S32x1x1_0 (iotaInDim S32 32 0))
    (broadcastInDim S32x1x1 ![] bcast_S_S32x1x1 (constantI S_ 32 1#32))) (broadcastInDim S32x1x1 ![] bcast_S_S32x1x1
    (constantI S_ 32 128#32)))) (broadcastInDim S32x1x384 ![0, 1, 2] bcast_S1x1x384_S32x1x384_0_1_2 (broadcastInDim
    S1x1x384 ![2] bcast_S384_S1x1x384_2 (iotaInDim S384 32 0)))) (broadcastInDim S32x1x384 ![] bcast_S_S32x1x384
    (constantI S_ 32 0#32))))) (broadcastInDim S32x128x384 ![0, 1, 2] bcast_S32x1x384_S32x128x384_0_1_2 (cmpi .slt
    (addi (broadcastInDim S32x1x384 ![0, 1, 2] bcast_S32x1x1_S32x1x384_0_1_2 (muli (subi (broadcastInDim S32x1x1 ![0]
    bcast_S32_S32x1x1_0 (iotaInDim S32 32 0)) (broadcastInDim S32x1x1 ![] bcast_S_S32x1x1 (constantI S_ 32 1#32)))
    (broadcastInDim S32x1x1 ![] bcast_S_S32x1x1 (constantI S_ 32 128#32)))) (broadcastInDim S32x1x384 ![0, 1, 2]
    bcast_S1x1x384_S32x1x384_0_1_2 (broadcastInDim S1x1x384 ![2] bcast_S384_S1x1x384_2 (iotaInDim S384 32 0))))
    (broadcastInDim S32x1x384 ![] bcast_S_S32x1x384 (constantI S_ 32 4096#32)))))

/-- The scores, with the unseen keys at minus infinity. -/
def masked (q : FVec Ideal S16x4096x1024 .bf16) (k : FVec Ideal S16x4096x256 .bf16) : FVec Ideal S16x32x2x4x128x384 .f32 :=
  select (broadcastInDim S16x32x2x4x128x384 ![0, 1, 2, 3, 4, 5]
    bcast_S1x32x1x1x128x384_S16x32x2x4x128x384_0_1_2_3_4_5 (broadcastInDim S1x32x1x1x128x384 ![1, 4, 5]
    bcast_S32x128x384_S1x32x1x1x128x384_1_4_5 near)) (transpose S16x32x2x4x128x384 [0, 1, 2, 5, 4, 3]
    (Host.dotGeneral dot_S16x32x384x2x128_S16x32x128x2x4x128_S16x32x2x384x128x4_4_5_2_24_013_013 none (wide k)
    (shapeCast _ (shapeCast _ (extf .f32 q bitsLt_bf16_f32) shapeCasts_S16x4096x1024_S16x4096x8x128)
    shapeCasts_S16x4096x8x128_S16x32x128x2x4x128)) transposes_S16x32x2x384x128x4_S16x32x2x4x128x384_0_1_2_5_4_3)
    (broadcastInDim S16x32x2x4x128x384 ![] bcast_S_S16x32x2x4x128x384 (id (constant S_ .f32 0xFF800000#32)))

/-- Each head's sink, at every query. -/
def sinks (s : FVec Ideal S8 .f32) : FVec Ideal S16x32x2x4x128x1 .f32 :=
  broadcastInDim S16x32x2x4x128x1 ![0, 1, 2, 3, 4, 5] bcast_S1x1x2x4x1x1_S16x32x2x4x128x1_0_1_2_3_4_5 (broadcastInDim
    S1x1x2x4x1x1 ![2, 3] bcast_S2x4_S1x1x2x4x1x1_2_3 (shapeCast _ s shapeCasts_S8_S2x4))

/-- The row maximum of the scores and the sink. -/
def top (q : FVec Ideal S16x4096x1024 .bf16) (k : FVec Ideal S16x4096x256 .bf16) (s : FVec Ideal S8 .f32) : FVec Ideal S16x32x2x4x128x1 .f32 :=
  maximumf (broadcastInDim S16x32x2x4x128x1 ![0, 1, 2, 3, 4] bcast_S16x32x2x4x128_S16x32x2x4x128x1_0_1_2_3_4
    (Host.reduce FloatOps.maximumf (masked q k) (constant S_ .f32 0xFF800000#32) reducesTo_S16x32x2x4x128x384_S16x32x2x4x128_d5 h_S_)) (sinks s)

/-- The exponentials of the scores, the row maximum taken off. -/
def expo (q : FVec Ideal S16x4096x1024 .bf16) (k : FVec Ideal S16x4096x256 .bf16) (s : FVec Ideal S8 .f32) : FVec Ideal S16x32x2x4x128x384 .f32 :=
  Host.exp (subf (masked q k) (broadcastInDim S16x32x2x4x128x384 ![0, 1, 2, 3, 4, 5]
    bcast_S16x32x2x4x128x1_S16x32x2x4x128x384_0_1_2_3_4_5 (top q k s)))

/-- The weights: the exponentials over their sum with the sink's. -/
def weights (q : FVec Ideal S16x4096x1024 .bf16) (k : FVec Ideal S16x4096x256 .bf16) (s : FVec Ideal S8 .f32) : FVec Ideal S16x32x2x4x128x384 .f32 :=
  Host.divf (expo q k s) (broadcastInDim S16x32x2x4x128x384 ![0, 1, 2, 3, 4, 5] bcast_S16x32x2x4x128x1_S16x32x2x4x128x384_0_1_2_3_4_5
    (addf (broadcastInDim S16x32x2x4x128x1 ![0, 1, 2, 3, 4] bcast_S16x32x2x4x128_S16x32x2x4x128x1_0_1_2_3_4
      (Host.reduceAdd (expo q k s) (constant S_ .f32 0x00000000#32) reducesTo_S16x32x2x4x128x384_S16x32x2x4x128_d5 h_S_))
      (Host.exp (subf (sinks s) (top q k s)))))

/-- The reference's result, in the pieces above. -/
theorem res_eq (m : (ℓ : Loc nD τ sig) → Buf (Elt Ideal) ℓ) (c : Dev nD) : res_out0 m c
    = truncf .bf16 (shapeCast S16x4096x1024 (transpose S16x32x128x2x4x128 [0, 1, 5, 2, 4, 3]
        (Host.dotGeneral dot_S16x32x384x2x128_S16x32x2x4x128x384_S16x32x2x128x4x128_2_5_4_34_013_012 none
          (wide (m ((c.tc : Thread nD τ).loc main_arg2)))
          (weights (m ((c.tc : Thread nD τ).loc main_arg0)) (m ((c.tc : Thread nD τ).loc main_arg1)) (m ((c.tc : Thread nD τ).loc main_arg3))))
        transposes_S16x32x2x128x4x128_S16x32x128x2x4x128_0_1_5_2_4_3) shapeCasts_S16x32x128x2x4x128_S16x4096x1024) bitsLt_bf16_f32 := by
  unfold res_out0 res_main_v75 weights expo top masked sinks near wide padded
  rfl

end Cert.AttnRefIdeal.Row

end
-- ==== Proof.AttnRead.lean ====
module

public import proofs.«01_k».proof.Proof.AttnRef
public import proofs.«01_k».proof.Proof.AttnRow
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.AttnRefIdeal.Row

open Cert.AttnRefIdeal Cert.AttnRefIdeal.Gen Cert.AttnRefIdeal.Value
open Cert.AttnRow

/-- The scores that one row's reduction reads are the row's 384. -/
theorem drop_iff (b : Fin 16) (n : Fin 32) (g : Fin 2) (hh : Fin 4) (r : Fin 128) (i : S16x32x2x4x128x384.Idx) :
    reducesTo_S16x32x2x4x128x384_S16x32x2x4x128_d5.drop i = ix5 b n g hh r ↔ ∃ c : Fin 384, ix6 b n g hh r c = i := by
  constructor
  · intro e
    have at' (a : Fin 5) := congrArg Fin.val (congrFun e a)
    exact ⟨i 5, funext fun a => Fin.ext (by
      match a with
      | 0 => exact (at' 0).symm
      | 1 => exact (at' 1).symm
      | 2 => exact (at' 2).symm
      | 3 => exact (at' 3).symm
      | 4 => exact (at' 4).symm
      | 5 => rfl)⟩
  · rintro ⟨c, rfl⟩
    funext a
    match a with
    | 0 => rfl
    | 1 => rfl
    | 2 => rfl
    | 3 => rfl
    | 4 => rfl

/-- A row's sum is over its 384 entries. -/
theorem sum_row (v : S16x32x2x4x128x384.Idx → EReal) (z : EReal) (b : Fin 16) (n : Fin 32) (g : Fin 2) (hh : Fin 4) (r : Fin 128) :
    Ideal.hostReduceAdd reducesTo_S16x32x2x4x128x384_S16x32x2x4x128_d5 v z (ix5 b n g hh r) = z + ∑ c : Fin 384, v (ix6 b n g hh r c) :=
  congrArg (z + ·) (Finset.sum_filter_eq_sum_of_fiber _ (fun c : Fin 384 => ix6 b n g hh r c) (fun _ _ e => congrFun e 5)
    (drop_iff b n g hh r) v)

/-- A row's maximum is over its 384 entries. -/
theorem max_row (v : FVec Ideal S16x32x2x4x128x384 .f32) (z : FVec Ideal S_ .f32) (b : Fin 16) (n : Fin 32) (g : Fin 2) (hh : Fin 4) (r : Fin 128) :
    Host.reduce FloatOps.maximumf v z reducesTo_S16x32x2x4x128x384_S16x32x2x4x128_d5 h_S_ (ix5 b n g hh r)
      = (Finset.univ : Finset (Fin 384)).fold max (z ix0) fun c => v (ix6 b n g hh r c) := by
  rw [Host.reduce_eq_fold, Finset.fold_filter_eq_fold_of_fiber _ _ (fun c : Fin 384 => ix6 b n g hh r c) (fun _ _ e => congrFun e 5)
    (drop_iff b n g hh r), show Shape.Idx.first h_S_ = ix0 from funext fun a => a.elim0]
  simp only [Ideal.maximumf_eq_max]

/-- Three conditions joined bit by bit. -/
theorem and_iff (P Q R : Prop) [Decidable P] [Decidable Q] [Decidable R] :
    IntOp.andi (IntOp.andi (if P then 1#1 else 0#1) (if Q then 1#1 else 0#1)) (if R then 1#1 else 0#1) = 1#1 ↔ P ∧ Q ∧ R := by
  split_ifs <;> simp [IntOp.andi, *]

/-- A query sees the keys at most 128 positions away that are in the sequence. -/
theorem near_iff (n : Fin 32) (r : Fin 128) (c : Fin 384) :
    near (ix3 n r c) = 1#1 ↔ (r.val ≤ c.val ∧ c.val ≤ r.val + 256) ∧ 128 ≤ n.val * 128 + c.val ∧ n.val * 128 + c.val < 4224 := by
  pointwise [near]
  have h1 : IntOp.subi (IntOp.addi (IntOp.muli (IntOp.subi (BitVec.ofNat 32 n.val) 1#32) 128#32) (BitVec.ofNat 32 c.val))
      (IntOp.addi (IntOp.muli (BitVec.ofNat 32 n.val) 128#32) (BitVec.ofNat 32 r.val))
      = IntOp.subi (IntOp.subi (BitVec.ofNat 32 c.val) 128#32) (BitVec.ofNat 32 r.val) := by
    simp only [IntOp.subi, IntOp.addi, IntOp.muli]
    apply BitVec.eq_of_toNat_eq
    simp only [BitVec.toNat_sub, BitVec.toNat_add, BitVec.toNat_mul, BitVec.toNat_ofNat]
    omega
  rw [h1]
  have h2 : IntOp.cmpi CmpIPredicate.sle (IntOp.absi (IntOp.subi (IntOp.subi (BitVec.ofNat 32 c.val) 128#32)
      (BitVec.ofNat 32 r.val))) 128#32 = if r.val ≤ c.val ∧ c.val ≤ r.val + 256 then 1#1 else 0#1 := by
    have e : IntOp.subi (IntOp.subi (BitVec.ofNat 32 c.val) 128#32) (BitVec.ofNat 32 r.val)
        = IntOp.subi (BitVec.ofNat 32 (c.val + 127 - r.val)) 255#32 := by
      simp only [IntOp.subi]
      apply BitVec.eq_of_toNat_eq
      simp only [BitVec.toNat_sub, BitVec.toNat_ofNat]
      omega
    have f : ∀ d : Fin 511, IntOp.cmpi CmpIPredicate.sle (IntOp.absi (IntOp.subi (BitVec.ofNat 32 d.val) 255#32)) 128#32
        = if 127 ≤ d.val ∧ d.val ≤ 383 then 1#1 else 0#1 := by decide +kernel
    rw [e, f ⟨c.val + 127 - r.val, by omega⟩]
    exact if_congr (by dsimp only; omega) rfl rfl
  have h3 : ∀ n : Fin 32, ∀ c : Fin 384, IntOp.cmpi CmpIPredicate.sge (IntOp.addi (IntOp.muli (IntOp.subi (BitVec.ofNat 32 n.val) 1#32) 128#32)
      (BitVec.ofNat 32 c.val)) 0#32 = if 128 ≤ n.val * 128 + c.val then 1#1 else 0#1 := by decide +kernel
  have h4 : ∀ n : Fin 32, ∀ c : Fin 384, IntOp.cmpi CmpIPredicate.slt (IntOp.addi (IntOp.muli (IntOp.subi (BitVec.ofNat 32 n.val) 1#32) 128#32)
      (BitVec.ofNat 32 c.val)) 4096#32 = if n.val * 128 + c.val < 4224 then 1#1 else 0#1 := by decide +kernel
  rw [h2, h3 n c, h4 n c]
  exact and_iff _ _ _

/-- Minus infinity, from its word. -/
theorem word_bot : Ideal.ofBits .f32 0xFF800000#32 = (⊥ : EReal) := by simp [Ideal.ofBits, Ideal.ieee]

/-- A key or value of a query's block and its neighbours, where there is one. -/
theorem wide_apply (x : FVec Ideal S16x4096x256 .bf16) (b : Fin 16) (n : Fin 32) (c : Fin 384) (g : Fin 2) (d : Fin 128)
    (h : 128 ≤ n.val * 128 + c.val) (h' : n.val * 128 + c.val < 4224) :
    wide x (ix5 b n c g d) = x (ix3 b ⟨n.val * 128 + c.val - 128, by omega⟩ ⟨g.val * 128 + d.val, by omega⟩) := by
  have at' (p p' : Nat) (e : p = p') (hp : p < 4096) (hp' : p' < 4096) :
      x (ix3 b ⟨p, hp⟩ ⟨g.val * 128 + d.val, by omega⟩) = x (ix3 b ⟨p', hp'⟩ ⟨g.val * 128 + d.val, by omega⟩) := by subst e; rfl
  pointwise [wide, padded]
  split_ifs
  all_goals first | omega | exact at' _ _ (by omega) _ _

/-- A head's sink. -/
theorem sinks_apply (s : FVec Ideal S8 .f32) (b : Fin 16) (n : Fin 32) (g : Fin 2) (hh : Fin 4) (r : Fin 128) :
    sinks s (ix6 b n g hh r 0) = s (ix1 ⟨g.val * 4 + hh.val, by omega⟩) := by
  pointwise [sinks]

/-- A query. -/
def query (q : FVec Ideal S16x4096x1024 .bf16) (b : Fin 16) (n : Fin 32) (g : Fin 2) (hh : Fin 4) (r : Fin 128) (x : Fin 128) : EReal :=
  q (ix3 b ⟨n.val * 128 + r.val, by omega⟩ ⟨g.val * 512 + hh.val * 128 + x.val, by omega⟩)

/-- A query's scores. -/
theorem masked_apply (q : FVec Ideal S16x4096x1024 .bf16) (k : FVec Ideal S16x4096x256 .bf16) (b : Fin 16) (n : Fin 32) (g : Fin 2)
    (hh : Fin 4) (r : Fin 128) (c : Fin 384) :
    masked q k (ix6 b n g hh r c)
      = score (fun c => near (ix3 n r c) = 1#1) (fun c d => wide k (ix5 b n c g d)) (query q b n g hh r) c := by
  pointwise [masked]
  simp only [constant, Ideal.ofBits_def, word_bot, id]
  rfl

/-- A query's largest score. -/
theorem top_apply (q : FVec Ideal S16x4096x1024 .bf16) (k : FVec Ideal S16x4096x256 .bf16) (s : FVec Ideal S8 .f32) (b : Fin 16) (n : Fin 32) (g : Fin 2)
    (hh : Fin 4) (r : Fin 128) :
    top q k s (ix6 b n g hh r 0) = peak (fun c => masked q k (ix6 b n g hh r c)) (s (ix1 ⟨g.val * 4 + hh.val, by omega⟩)) := by
  have e (v : FVec Ideal S16x32x2x4x128 .f32) (w : FVec Ideal S16x32x2x4x128x1 .f32) :
      maximumf (broadcastInDim S16x32x2x4x128x1 ![0, 1, 2, 3, 4] bcast_S16x32x2x4x128_S16x32x2x4x128x1_0_1_2_3_4 v) w (ix6 b n g hh r 0)
        = max (v (ix5 b n g hh r)) (w (ix6 b n g hh r 0)) := by
    pointwise
  unfold top
  rw [e, max_row, sinks_apply]
  unfold peak
  rw [← word_bot]
  rfl

/-- A query's weight of a key. -/
theorem weights_apply (q : FVec Ideal S16x4096x1024 .bf16) (k : FVec Ideal S16x4096x256 .bf16) (s : FVec Ideal S8 .f32) (b : Fin 16) (n : Fin 32) (g : Fin 2)
    (hh : Fin 4) (r : Fin 128) (c : Fin 384) : weights q k s (ix6 b n g hh r c)
    = Ideal.div (Ideal.exp (masked q k (ix6 b n g hh r c) - peak (fun c => masked q k (ix6 b n g hh r c)) (s (ix1 ⟨g.val * 4 + hh.val, by omega⟩))))
        (mass (fun c => masked q k (ix6 b n g hh r c)) (s (ix1 ⟨g.val * 4 + hh.val, by omega⟩))) := by
  have e (c : Fin 384) : expo q k s (ix6 b n g hh r c)
      = Ideal.exp (masked q k (ix6 b n g hh r c) - peak (fun c => masked q k (ix6 b n g hh r c)) (s (ix1 ⟨g.val * 4 + hh.val, by omega⟩))) := by
    pointwise [expo]
    rw [top_apply]
  pointwise [weights]
  rw [sum_row, top_apply, sinks_apply]
  simp only [e]
  rw [zero_add]
  rfl

/-- The reference's result at a query's head and lane. -/
theorem res_apply (m : (ℓ : Loc nD τ sig) → Buf (Elt Ideal) ℓ) (c : Dev nD) (b : Fin 16) (n : Fin 32) (g : Fin 2) (hh : Fin 4) (r x : Fin 128) :
    res_out0 m c (ix3 b ⟨n.val * 128 + r.val, by omega⟩ ⟨g.val * 512 + hh.val * 128 + x.val, by omega⟩)
      = inside (score (fun c => near (ix3 n r c) = 1#1) (fun k d => wide (m ((c.tc : Thread nD τ).loc main_arg1)) (ix5 b n k g d))
          (query (m ((c.tc : Thread nD τ).loc main_arg0)) b n g hh r)) (m ((c.tc : Thread nD τ).loc main_arg3) (ix1 ⟨g.val * 4 + hh.val, by omega⟩))
          (fun k => wide (m ((c.tc : Thread nD τ).loc main_arg2)) (ix5 b n k g x)) := by
  rw [res_eq]
  generalize m ((c.tc : Thread nD τ).loc main_arg0) = q, m ((c.tc : Thread nD τ).loc main_arg1) = k, m ((c.tc : Thread nD τ).loc main_arg2) = v,
    m ((c.tc : Thread nD τ).loc main_arg3) = s
  pointwise
  simp only [weights_apply, masked_apply]
  rfl

end Cert.AttnRefIdeal.Row

end
-- ==== Proof.AttnWhole.lean ====
module

public import proofs.«01_k».proof.Proof.AttnRead

@[expose] public section

set_option maxRecDepth 16384

noncomputable section

open Idealize.ShloMosaic Idealize.ShloMosaic.TcCoe Idealize.SL.Sem Idealize.ShloMosaic.StableHlo

namespace Cert.AttnRefIdeal.Row

open Cert.AttnRefIdeal Cert.AttnRefIdeal.Gen Cert.AttnRefIdeal.Value
open Cert.AttnRow

/-- A place inside the sequence. -/
theorem place_of (k : Fin 4096 → EReal) (n : Fin 32) (c : Fin 384) (h : 128 ≤ n.val * 128 + c.val ∧ n.val * 128 + c.val < 4224) :
    place k n c = k ⟨n.val * 128 + c.val - 128, by omega⟩ := dif_pos h

/-- A row that reads keys and values from the padded arrays reads them from the sequence, where it sees them. -/
theorem inside_wide (q : Fin 128 → EReal) (k v : FVec Ideal S16x4096x256 .bf16) (s : EReal) (b : Fin 16) (n : Fin 32) (g : Fin 2) (r x : Fin 128)
    (fq : ∀ d, IsReal (q d)) (fk : ∀ i, IsReal (k i)) (fs : IsReal s) :
    inside (score (fun c => near (ix3 n r c) = 1#1) (fun c d => wide k (ix5 b n c g d)) q) s (fun c => wide v (ix5 b n c g x))
      = inside (score (fun c => Sees n.val r.val c.val) (fun c d => place (fun p => k (ix3 b p ⟨g.val * 128 + d.val, by omega⟩)) n c) q) s
          (fun c => place (fun p => v (ix3 b p ⟨g.val * 128 + x.val, by omega⟩)) n c) := by
  rw [score_congr _ q (P' := fun c : Fin 384 => Sees n.val r.val c.val) fun c => near_iff n r c]
  have in_k : ∀ c : Fin 384, Sees n.val r.val c.val → ∀ d : Fin 128, wide k (ix5 b n c g d)
      = place (fun p => k (ix3 b p ⟨g.val * 128 + d.val, by omega⟩)) n c := fun c h d =>
    by rw [wide_apply k b n c g d h.2.1 h.2.2, place_of _ n c h.2]
  have in_v : ∀ c : Fin 384, Sees n.val r.val c.val → wide v (ix5 b n c g x)
      = place (fun p => v (ix3 b p ⟨g.val * 128 + x.val, by omega⟩)) n c := fun c h =>
    by rw [wide_apply v b n c g x h.2.1 h.2.2, place_of _ n c h.2]
  refine (inside_eq_outside _ _ _ q s _ _ in_k in_v (fun c h d => ?_) fq fs).trans
    (inside_eq_outside _ _ _ q s _ _ (fun _ _ _ => rfl) (fun _ _ => rfl) (fun c h d => ?_) fq fs).symm
  · rw [wide_apply k b n c g d h.2.1 h.2.2]
    exact fk _
  · rw [place_of _ n c h.2]
    exact fk _

/-- The reference's result, on finite queries, keys and sinks. -/
theorem res_result (m : (ℓ : Loc nD τ sig) → Buf (Elt Ideal) ℓ) (c : Dev nD) (b : Fin 16) (p : Fin 4096) (w : Fin 1024)
    (fq : ∀ i, IsReal (m ((c : Thread nD τ).loc main_arg0) i))
    (fk : ∀ i, IsReal (m ((c : Thread nD τ).loc main_arg1) i)) (fs : ∀ i, IsReal (m ((c : Thread nD τ).loc main_arg3) i)) :
    res_out0 m c (ix3 b p w)
      = result (fun p w => m ((c : Thread nD τ).loc main_arg0) (ix3 b p w)) (fun p w => m ((c : Thread nD τ).loc main_arg1) (ix3 b p w))
          (fun p w => m ((c : Thread nD τ).loc main_arg2) (ix3 b p w)) (fun h => m ((c : Thread nD τ).loc main_arg3) (ix1 h))
          ⟨p.val / 128, by omega⟩ ⟨w.val / 512, by omega⟩ ⟨w.val / 128 % 4, by omega⟩ ⟨p.val % 128, by omega⟩ ⟨w.val % 128, by omega⟩ := by
  have ep : p = ⟨p.val / 128 * 128 + p.val % 128, by omega⟩ := Fin.ext (by dsimp only; omega)
  have ew : w = ⟨w.val / 512 * 512 + w.val / 128 % 4 * 128 + w.val % 128, by omega⟩ := Fin.ext (by dsimp only; omega)
  have e : (ix3 b p w : S16x4096x1024.Idx)
      = ix3 b ⟨p.val / 128 * 128 + p.val % 128, by omega⟩ ⟨w.val / 512 * 512 + w.val / 128 % 4 * 128 + w.val % 128, by omega⟩ :=
    congrArg₂ (ix3 b) ep ew
  rw [e]
  exact (res_apply m c b ⟨p.val / 128, by omega⟩ ⟨w.val / 512, by omega⟩ ⟨w.val / 128 % 4, by omega⟩ ⟨p.val % 128, by omega⟩ ⟨w.val % 128, by omega⟩).trans
    (inside_wide _ _ _ _ b _ _ _ _ (fun d => fq _) fk (fs _))

end Cert.AttnRefIdeal.Row

end
-- ==== Proof.AttnEq.lean ====
module

public import proofs.«01_k».proof.Defs
public import proofs.«01_k».proof.Proof.AttnValue
public import proofs.«01_k».proof.Proof.AttnWhole
public import proofs.«01_k».proof.Proof.Gen.Attn.Frame
public import proofs.«01_k».proof.Proof.Gen.AttnRefIdeal
public import proofs.«01_k».proof.Proof.Gen.Pre_finite

@[expose] public section

noncomputable section

open Idealize.ShloMosaic Idealize.ShloMosaic.TcCoe Idealize.SL.Sem

namespace Cert.Proof.AttnEq

variable [hAttn : Cert.Attn.Facts] [hAttnIdeal : Cert.AttnIdeal.Facts] [hAttnRefIdeal : Cert.AttnRefIdeal.Facts] [hPre : Cert.Pre_finite.Facts]

/-- The attention call runs without fault and leaves its arguments unchanged, in every arithmetic. -/
theorem frame_p : Cert.quiescent_Attn := fun m ρ _ => Cert.Attn.Gen.frame m ρ

/-- The same of the idealized call. -/
theorem frame_i : Cert.quiescent_AttnIdeal := fun m ρ _ => Cert.AttnIdeal.Gen.frame m ρ

/-- The same where its arguments are finite. -/
theorem frame_i_finite : Cert.quiescent_AttnIdeal_pre_finite := fun m ρ _ => Cert.AttnIdeal.Gen.frame m ρ

/-- The same of the reference: it has no semaphore, and its run says what the arguments hold. -/
theorem frame_r : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- The same where its arguments are finite. -/
theorem frame_r_finite : Cert.quiescent_AttnRefIdeal_pre_finite := fun m ρ _ => frame_r m ρ trivial

/-- Idealizing the attention call gave its mask constant the value minus infinity. -/
theorem preserves : Cert.preserves_Attn_AttnIdeal :=
  IdealRules.named_const.statement Cert.AttnIdeal.κ "mask" .f32 0xF149F2CA#32 ⊥ rfl

/-- A number above minus infinity and below infinity is a real one. -/
theorem real_of_bits (x : EReal)
    (h : Ideal.cmp .ogt x (Ideal.ofBits .f32 0xFF800000#32) &&& Ideal.cmp .olt x (Ideal.ofBits .f32 0x7F800000#32) = 1#1) : Cert.AttnRow.IsReal x := by
  have lo : Ideal.ofBits .f32 0xFF800000#32 = (⊥ : EReal) := by simp [Ideal.ofBits, Ideal.ieee]
  have hi : Ideal.ofBits .f32 0x7F800000#32 = (⊤ : EReal) := by simp [Ideal.ofBits, Ideal.ieee]
  rw [lo, hi] at h
  constructor
  · rintro rfl
    simp [Ideal.cmp] at h
  · rintro rfl
    simp [Ideal.cmp] at h

/-- What the precondition says of the arguments: queries, keys and sinks are real numbers. -/
theorem reals {m : (ℓ : Loc Cert.AttnIdeal.nD Cert.AttnIdeal.τ Cert.AttnIdeal.sig) → Buf (Elt Ideal) ℓ} (h : Cert.Pre_AttnIdeal_finite m)
    (c : Dev Cert.AttnIdeal.nD) :
    (∀ i, Cert.AttnRow.IsReal (m ((c.tc : Thread _ _).loc Cert.AttnIdeal.main_arg0) i))
      ∧ (∀ i, Cert.AttnRow.IsReal (m ((c.tc : Thread _ _).loc Cert.AttnIdeal.main_arg1) i))
      ∧ (∀ i, Cert.AttnRow.IsReal (m ((c.tc : Thread _ _).loc Cert.AttnIdeal.main_arg3) i)) :=
  ⟨fun i => real_of_bits _ (congrFun (h c).1 i), fun i => real_of_bits _ (congrFun (h c).2.1 i), fun i => real_of_bits _ (congrFun (h c).2.2 i)⟩

/-- The attention call and its reference compute the same array from the same arguments, where queries, keys and sinks are finite. -/
theorem algebraic : Cert.algebraic_AttnIdeal_AttnRefIdeal_pre_finite := by
  intro m ρ m' ρ' hpre hag
  refine ⟨fun c => Cert.AttnIdeal.Row.whole (m ((c.tc : Thread _ _).loc Cert.AttnIdeal.main_arg0))
    (m ((c.tc : Thread _ _).loc Cert.AttnIdeal.main_arg1)) (m ((c.tc : Thread _ _).loc Cert.AttnIdeal.main_arg2))
    (m ((c.tc : Thread _ _).loc Cert.AttnIdeal.main_arg3)), ?_, ?_⟩
  · refine (θ_run Cert.AttnIdeal.defs _ _).mono (fun _ h c => ⟨(h c).1.trans ?_, (h c).2⟩)
      (Cert.AttnIdeal.Value.run_blocks (F := Ideal) m ρ)
    obtain ⟨fq, fk, fs⟩ := reals hpre c
    exact Cert.AttnIdeal.Row.final m c fq fk fs
  · refine (θ_run Cert.AttnRefIdeal.defs _ _).mono (fun _ h c => ⟨(h c).1.trans ?_, (h c).2⟩)
      (Cert.AttnRefIdeal.Value.run (F := Ideal) m' ρ')
    obtain ⟨h0, h1, h2, h3⟩ := hag c
    obtain ⟨fq, fk, fs⟩ := reals hpre c
    funext y
    obtain ⟨b, p, w, rfl⟩ : ∃ (b : Fin 16) (p : Fin 4096) (w : Fin 1024), y = ix3 b p w := ⟨y 0, y 1, y 2, eq_ix3 y⟩
    refine (Cert.AttnRefIdeal.Row.res_result m' c b p w (fun i => ?_) (fun i => ?_) (fun i => ?_)).trans ?_
    · rw [h0]; exact fq i
    · rw [h1]; exact fk i
    · rw [h3]; exact fs i
    · rw [h0, h1, h2, h3]
      exact (Cert.AttnIdeal.Row.whole_apply _ _ _ _ b p w).symm

end Cert.Proof.AttnEq

end
-- ==== Proof.FfnRef.lean ====
module

public import proofs.«01_k».proof.Proof.Gen.FfnRefIdeal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.FfnRow

/-- A contraction of a row with a column of a matrix. -/
def dot {n k : ℕ} (h : Fin n → EReal) (w : Fin n → Fin k → EReal) (j : Fin k) : EReal := ∑ i, h i * w i j

/-- The gated activation: a linear unit through `z · (1 / (1 + e^(-z)))`, times a second linear unit. -/
def act (h : Fin 1024 → EReal) (w : Fin 1024 → Fin 5632 → EReal) (k : Fin 2816) : EReal :=
  dot h w ⟨k, by omega⟩ * Ideal.div 1 (1 + Ideal.exp (-dot h w ⟨k, by omega⟩)) * dot h w ⟨2816 + k, by omega⟩

/-- A row over the root of its mean square, times a weight. -/
def norm (y : Fin 1024 → EReal) (g : Fin 1024 → EReal) (j : Fin 1024) : EReal :=
  y j * Ideal.rsqrt (Ideal.div (∑ k, y k * y k) (Ideal.ofBits .f32 0x44800000#32) + Ideal.ofBits .f32 0x358637BD#32) * g j

/-- One row of the layer's feed-forward step. -/
def out (x h : Fin 1024 → EReal) (w1 : Fin 1024 → Fin 5632 → EReal) (w2 : Fin 2816 → Fin 1024 → EReal) (g : Fin 1024 → EReal)
    (j : Fin 1024) : EReal :=
  x j + norm (dot (act h w1) w2) g j

end Cert.FfnRow

namespace Cert.FfnRefIdeal.Row

open Cert.FfnRefIdeal Cert.FfnRefIdeal.Value

/-- The reference's result at row `r`, column `j`. -/
theorem res_apply (m : (ℓ : Loc nD τ sig) → Buf (Elt Ideal) ℓ) (c : Dev nD) (r : Fin 65536) (j : Fin 1024) :
    res_out0 m c (ix2 r j) = FfnRow.out (fun k => m ((c.tc : Thread nD τ).loc main_arg0) (ix2 r k))
      (fun k => m ((c.tc : Thread nD τ).loc main_arg1) (ix2 r k)) (fun a b => m ((c.tc : Thread nD τ).loc main_arg2) (ix2 a b))
      (fun a b => m ((c.tc : Thread nD τ).loc main_arg3) (ix2 a b)) (fun k => m ((c.tc : Thread nD τ).loc main_arg4) (ix1 k)) j := by
  unfold res_out0 res_main_v20
  clean_types
  pointwise [FfnRow.out, FfnRow.norm, FfnRow.dot, FfnRow.act]

end Cert.FfnRefIdeal.Row

end
-- ==== Proof.Sigmoid.lean ====
module

public import Idealize.ShloMosaic.Lib.Pointwise

@[expose] public section

noncomputable section

open Idealize.ShloMosaic

namespace Cert.Sig

/-- The word `0x3F000000` is one half. -/
theorem half_f32 : Ideal.ofBits .f32 0x3F000000#32 = ((1 / 2 : ℝ) : EReal) := by
  simp [Ideal.ofBits, Ideal.ieee, -EReal.coe_mul]; norm_num

/-- `(1 + e^(-r))⁻¹` is `½ tanh (½ r) + ½`, over the reals. -/
theorem real_half_tanh (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add, add_neg_cancel, Real.exp_zero]
  rw [h1]
  set a := Real.exp (1 / 2 * r) with ha
  set b := Real.exp (-(1 / 2 * r)) with hb
  have pa : 0 < a := Real.exp_pos _
  have pb : 0 < b := Real.exp_pos _
  have e : (1 : ℝ) + b * b = b * (a + b) := by rw [mul_add, mul_comm b a, h2]
  rw [e]
  field_simp
  nlinarith

/-- The logistic function written with a hyperbolic tangent, at every extended real. -/
theorem half_tanh (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_f32]
  show _ = Ideal.logistic x
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, real_half_tanh]

end Cert.Sig

end
-- ==== Proof.FfnValue.lean ====
module

public import proofs.«01_k».proof.Proof.Gen.FfnIdeal.Value
public import proofs.«01_k».proof.Proof.FfnRef
public import proofs.«01_k».proof.Proof.Sigmoid
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Row

open Cert.FfnIdeal Cert.FfnIdeal.Gen

variable (m : (ℓ : Loc nD τ sig) → Buf (Elt Ideal) ℓ)

/-- Where each window lies at each grid step. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

/-- The layer's feed-forward step over whole arrays. -/
def G (x : FVec Ideal S65536x1024 .f32) (h : FVec Ideal S65536x1024 .bf16) (w1 : FVec Ideal S1024x5632 .f32)
    (w2 : FVec Ideal S2816x1024 .f32) (g : FVec Ideal S1024 .f32) : FVec Ideal S65536x1024 .f32 := fun i =>
  FfnRow.out (fun k => x (ix2 (i 0) k)) (fun k => h (ix2 (i 0) k)) (fun a b => w1 (ix2 a b)) (fun a b => w2 (ix2 a b))
    (fun k => g (ix1 k)) (i 1)

/-- The gated activation of a block of rows. -/
def actBlk (h : FVec Ideal S512x1024 .bf16) (w : FVec Ideal S1024x5632 .bf16) : FVec Ideal S512x2816 .bf16 := fun y =>
  FfnRow.act (fun k => h (ix2 (y 0) k)) (fun a b => w (ix2 a b)) (y 1)

/-- One chunk of 256 columns of the activation, from the two matching column ranges of the weights. -/
theorem chunk (o o' : ℕ) (ho : o' = 2816 + o) (i1 : ∀ a, (![0, o] : Fin 2 → ℕ) a + S1024x256.size a ≤ S1024x5632.size a)
    (i2 : ∀ a, (![0, o'] : Fin 2 → ℕ) a + S1024x256.size a ≤ S1024x5632.size a)
    (i3 : ∀ a, (![0, o] : Fin 2 → ℕ) a + S512x256.size a ≤ S512x2816.size a)
    (h : FVec Ideal S512x1024 .bf16) (w : FVec Ideal S1024x5632 .bf16) (x : S512x256.Idx) :
    k0_pay2 h (View.ld w (Rect.unit (s := S1024x5632) ![0, o] S1024x256.size i1)) (View.ld w (Rect.unit (s := S1024x5632) ![0, o'] S1024x256.size i2)) x
      = actBlk h w ((Rect.unit (s := S512x2816) ![0, o] S512x256.size i3).emb x) := by
  subst ho
  idx_vars x
  have hb : o + 256 ≤ 2816 := i3 1
  have e : (Rect.unit (s := S512x2816) ![0, o] S512x256.size i3).emb (ix2 x0 x1) = ix2 x0 ⟨o + x1, by omega⟩ := by
    funext a
    apply Fin.ext
    match a with
    | ⟨0, _⟩ => exact (congrArg (0 + ·) (Nat.one_mul _)).trans (Nat.zero_add _)
    | ⟨1, _⟩ => exact congrArg (o + ·) (Nat.one_mul _)
  rw [e]
  pointwise [k0_pay2, actBlk, FfnRow.act, FfnRow.dot]
  rw [Sig.half_tanh]
  simp only [Nat.add_assoc]

/-- A buffer holding stores that are the pieces of one array, read back whole, is that array. -/
theorem readCov_of_pieces {sig : RefSig} {κ : Kind} {sp : Space} {s : Shape} {e : EltTy} {Val : EltTy → Type}
    [∀ e, Nonempty (Val e)] (v : View sig κ sp s e) (G : s.Idx → Val e) (L : List (View.Piece Val s e)) (h : View.PiecesOf G L) (hc : ∀ y, ∃ p ∈ L, y ∈ p.1.set) (B : LoadRect s) :
    v.readCov L B = fun j => G (B.idx j) := by
  rw [View.readCov_eq_canon _ _ _ fun j => hc _]
  funext j
  exact View.canon_apply_of_pieces G L h.mem _ (hc _)

/-- The result array after the run. -/
theorem final (c : Dev nD) : (dats m 0 c).arrAt 5 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_open
  simp (disch := decide) only [↓ View.readCov_skip, ↓ View.readCov_cons_toLoadRect, ↓ View.readCov_fill]
  frame_out
  refine Eq.trans (congrArg (fun z => k0_pay1 (k0_pay26 z (iblk m c 3 t)) (iblk m c 0 t) (iblk m c 4 t) y)
    (readCov_of_pieces _ (actBlk (iblk m c 1 t) (iblk m c 2 t)) _ ?_ ?_ _)) ?_
  · refine ⟨?_, ?_, ?_, ?_, ?_, ?_, ?_, ?_, ?_, ?_, ?_, trivial⟩
    all_goals exact fun x => chunk _ _ rfl _ _ (by decide) _ _ x
  · exact View.cover_of_tiledL _ S512x256.size (by sl_kernel_rfl)
  · pointwise [k0_pay1, k0_pay26, G, actBlk, FfnRow.out, FfnRow.norm, FfnRow.dot, FfnRow.act]
    blk_point [iblk, V, idx t]

end Cert.FfnIdeal.Row

end
-- ==== Proof.FfnEq.lean ====
module

public import proofs.«01_k».proof.Defs
public import proofs.«01_k».proof.Proof.FfnValue
public import proofs.«01_k».proof.Proof.Gen.Ffn.Frame
public import proofs.«01_k».proof.Proof.Gen.FfnRefIdeal

@[expose] public section

noncomputable section

open Idealize.ShloMosaic Idealize.ShloMosaic.TcCoe Idealize.SL.Sem

namespace Cert.Proof.FfnEq

variable [hFfn : Cert.Ffn.Facts] [hFfnIdeal : Cert.FfnIdeal.Facts] [hFfnRefIdeal : Cert.FfnRefIdeal.Facts]

/-- The feed-forward call runs without fault and leaves its arguments unchanged, in every arithmetic. -/
theorem frame_p : Cert.quiescent_Ffn := fun m ρ _ => Cert.Ffn.Gen.frame m ρ

/-- The same of the idealized call. -/
theorem frame_i : Cert.quiescent_FfnIdeal := fun m ρ _ => Cert.FfnIdeal.Gen.frame m ρ

/-- The same of the reference: it has no semaphore, and its run says what the arguments hold. -/
theorem frame_r : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- Idealizing the feed-forward call rewrote nothing. -/
theorem preserves : Cert.preserves_Ffn_FfnIdeal := trivial

/-- The feed-forward call and its reference compute the same array from the same arguments. -/
theorem algebraic : Cert.algebraic_FfnIdeal_FfnRefIdeal := by
  intro m ρ m' ρ' _ hag
  refine ⟨fun c => Cert.FfnIdeal.Row.G (m ((c.tc : Thread _ _).loc Cert.FfnIdeal.main_arg0))
    (m ((c.tc : Thread _ _).loc Cert.FfnIdeal.main_arg1)) (m ((c.tc : Thread _ _).loc Cert.FfnIdeal.main_arg2))
    (m ((c.tc : Thread _ _).loc Cert.FfnIdeal.main_arg3)) (m ((c.tc : Thread _ _).loc Cert.FfnIdeal.main_arg4)), ?_, ?_⟩
  · exact (θ_run Cert.FfnIdeal.defs _ _).mono (fun _ h c => ⟨(h c).1.trans (Cert.FfnIdeal.Row.final m c), (h c).2⟩)
      (Cert.FfnIdeal.Value.run_blocks (F := Ideal) m ρ)
  · refine (θ_run Cert.FfnRefIdeal.defs _ _).mono (fun _ h c => ⟨(h c).1.trans ?_, (h c).2⟩)
      (Cert.FfnRefIdeal.Value.run (F := Ideal) m' ρ')
    obtain ⟨h0, h1, h2, h3, h4⟩ := hag c
    funext y
    obtain ⟨r, j, rfl⟩ : ∃ (r : Fin 65536) (j : Fin 1024), y = ix2 r j := ⟨y 0, y 1, eq_ix2 y⟩
    refine (Cert.FfnRefIdeal.Row.res_apply m' c r j).trans ?_
    rw [h0, h1, h2, h3, h4]
    rfl

end Cert.Proof.FfnEq

end
-- ==== Proof.MergeRef.lean ====
module

public import proofs.«01_k».proof.Proof.Gen.MergeRefIdeal.Run
public import proofs.«01_k».proof.Proof.FfnRef

@[expose] public section

set_option maxRecDepth 16384

noncomputable section

open Idealize.ShloMosaic Idealize.ShloMosaic.TcCoe Idealize.SL.Sem

namespace Cert.MergeRow

open Cert.FfnRow

/-- Both mixers' outputs of one row, each through its projection and its gate, added. -/
def merged (a : Fin 1024 → EReal) (r : Fin 1280 → EReal) (ga gr : Fin 1024 → EReal) (pa : Fin 1024 → Fin 1024 → EReal)
    (pr : Fin 1280 → Fin 1024 → EReal) (j : Fin 1024) : EReal := ga j * dot a pa j + gr j * dot r pr j

/-- One row of the residual stream after the mixers. -/
def x1 (x a : Fin 1024 → EReal) (r : Fin 1280 → EReal) (ga gr : Fin 1024 → EReal) (pa : Fin 1024 → Fin 1024 → EReal)
    (pr : Fin 1280 → Fin 1024 → EReal) (wo : Fin 1024 → Fin 1024 → EReal) (n1 : Fin 1024 → EReal) (j : Fin 1024) : EReal :=
  x j + norm (dot (merged a r ga gr pa pr) wo) n1 j

end Cert.MergeRow

namespace Cert.MergeRefIdeal.Row

open Cert.MergeRefIdeal Cert.MergeRefIdeal.Value

/-- The row that the reference's first result holds, from the arguments in memory. -/
abbrev row (m : (ℓ : Loc nD τ sig) → Buf (Elt Ideal) ℓ) (c : Dev nD) (r : Fin 65536) : Fin 1024 → EReal :=
  MergeRow.x1 (fun k => m ((c.tc : Thread nD τ).loc main_arg0) (ix2 r k))
    (fun k => m ((c.tc : Thread nD τ).loc main_arg1) (ix2 r k)) (fun k => m ((c.tc : Thread nD τ).loc main_arg2) (ix2 r k))
    (fun k => m ((c.tc : Thread nD τ).loc main_arg3) (ix2 r k)) (fun k => m ((c.tc : Thread nD τ).loc main_arg4) (ix2 r k))
    (fun a b => m ((c.tc : Thread nD τ).loc main_arg5) (ix2 a b)) (fun a b => m ((c.tc : Thread nD τ).loc main_arg6) (ix2 a b))
    (fun a b => m ((c.tc : Thread nD τ).loc main_arg7) (ix2 a b)) (fun k => m ((c.tc : Thread nD τ).loc main_arg8) (ix1 k))

/-- The reference's second result at row `r`, column `j`: the first, normalized. -/
theorem res1_apply (m : (ℓ : Loc nD τ sig) → Buf (Elt Ideal) ℓ) (c : Dev nD) (r : Fin 65536) (j : Fin 1024) :
    res_out1 m c (ix2 r j) = FfnRow.norm (row m c r) (fun k => m ((c.tc : Thread nD τ).loc main_arg9) (ix1 k)) j := by
  unfold res_out1 res_main_v37
  clean_types
  pointwise [row, MergeRow.x1, MergeRow.merged, FfnRow.norm, FfnRow.dot]

/-- The reference's run: both results at every row, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v23) = (fun i : S65536x1024.Idx => row m c (i 0) (i 1)))
      ∧ (r.2.mem ((c.tc : Thread nD τ).loc main_v37)
        = (fun i : S65536x1024.Idx => FfnRow.norm (row m c (i 0)) (fun k => m ((c.tc : Thread nD τ).loc main_arg9) (ix1 k)) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (by
      funext i
      obtain ⟨r, j, rfl⟩ : ∃ (r : Fin 65536) (j : Fin 1024), i = ix2 r j := ⟨i 0, i 1, eq_ix2 i⟩
      clean_types
      pointwise [row, MergeRow.x1, MergeRow.merged, FfnRow.norm, FfnRow.dot]),
    (h c).2.1.trans (by
      funext i
      obtain ⟨r, j, rfl⟩ : ∃ (r : Fin 65536) (j : Fin 1024), i = ix2 r j := ⟨i 0, i 1, eq_ix2 i⟩
      exact res1_apply m c r j),
    (h c).2.2⟩) (Value.run m ρ)

end Cert.MergeRefIdeal.Row

end
-- ==== Proof.MergeValue.lean ====
module

public import proofs.«01_k».proof.Proof.Gen.MergeIdeal.Value
public import proofs.«01_k».proof.Proof.MergeRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Row

open Cert.MergeIdeal Cert.MergeIdeal.Gen

variable (m : (ℓ : Loc nD τ sig) → Buf (Elt Ideal) ℓ)

/-- The windows' block indices, at every grid point: a row block at the point's number, a weight whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0]
    ∧ win0_10.index t = ![t.val, 0] ∧ win0_11.index t = ![t.val, 0] :=
  (by decide +kernel : ∀ t : Fin grid0.N, _)

/-- The row that the kernel's first result holds, from the arguments in memory. -/
def row (c : Dev nD) (r : Fin 65536) : Fin 1024 → EReal :=
  MergeRow.x1 (fun k => m ((c.tc : Thread nD τ).loc main_arg0) (ix2 r k))
    (fun k => m ((c.tc : Thread nD τ).loc main_arg1) (ix2 r k)) (fun k => m ((c.tc : Thread nD τ).loc main_arg2) (ix2 r k))
    (fun k => m ((c.tc : Thread nD τ).loc main_arg3) (ix2 r k)) (fun k => m ((c.tc : Thread nD τ).loc main_arg4) (ix2 r k))
    (fun a b => m ((c.tc : Thread nD τ).loc main_arg5) (ix2 a b)) (fun a b => m ((c.tc : Thread nD τ).loc main_arg6) (ix2 a b))
    (fun a b => m ((c.tc : Thread nD τ).loc main_arg7) (ix2 a b)) (fun k => m ((c.tc : Thread nD τ).loc main_arg8) (ix1 k))

/-- What the body computes of its blocks at row `p`, column `q` of the block is the row function at the block's rows. -/
theorem pay2_apply (c : Dev nD) (t : Fin cfg0.N) (p : Fin 512) (q : Fin 1024) (r : Fin 65536) (hr : r.val = t.val * 512 + p.val) :
    k0_pay2 (iblk m c 1 t) (iblk m c 5 t) (iblk m c 2 t) (iblk m c 6 t) (iblk m c 3 t) (iblk m c 4 t) (iblk m c 7 t)
      (iblk m c 0 t) (iblk m c 8 t) (ix2 p q) = row m c r q := by
  pointwise [k0_pay2, row, MergeRow.x1, MergeRow.merged, FfnRow.norm, FfnRow.dot]
  blk_point [iblk, V, idx t]

/-- Where an index of a row block lies in its array. -/
theorem emb10 (t : Fin cfg0.N) (y : S512x1024.Idx) : ∃ h : t.val * 512 + (y 0).val < 65536,
    ((cfg0.win 10).blk t).view.emb y = ix2 ⟨t.val * 512 + (y 0).val, h⟩ (y 1) := by
  have hN : t.val < 128 := t.isLt
  have h0 : (y 0).val < 512 := (y 0).isLt
  refine ⟨by omega, ?_⟩
  blk_ext [idx t]

/-- The same for the second result. -/
theorem emb11 (t : Fin cfg0.N) (y : S512x1024.Idx) : ∃ h : t.val * 512 + (y 0).val < 65536,
    ((cfg0.win 11).blk t).view.emb y = ix2 ⟨t.val * 512 + (y 0).val, h⟩ (y 1) := by
  have hN : t.val < 128 := t.isLt
  have h0 : (y 0).val < 512 := (y 0).isLt
  refine ⟨by omega, ?_⟩
  blk_ext [idx t]

/-- The body's last step: a block of rows normalized and weighted. -/
theorem pay1_apply (v : FVec Ideal S512x1024 .f32) (g : Vec Ideal S1x1024 .f32) (p : Fin 512) (q : Fin 1024) :
    k0_pay1 v g (ix2 p q) = FfnRow.norm (fun k => v (ix2 p k)) (fun k => g (ix2 0 k)) q := by
  pointwise [k0_pay1, FfnRow.norm]

/-- The first stored value is the body's combination of the whole input blocks. -/
theorem pay3_eq (x0 : Vec Ideal S512x1024 .f32) (x1 : Vec Ideal S512x1024 .bf16) (x2 : Vec Ideal S512x1280 .bf16)
    (x3 x4 : Vec Ideal S512x1024 .bf16) (x5 : Vec Ideal S1024x1024 .bf16) (x6 : Vec Ideal S1280x1024 .bf16)
    (x7 : Vec Ideal S1024x1024 .bf16) (x8 x9 : Vec Ideal S1x1024 .f32) :
    k0_pay3 x0 x1 x2 x3 x4 x5 x6 x7 x8 x9 = k0_pay2 x1 x5 x2 x6 x3 x4 x7 x0 x8 := by
  unfold k0_pay3 r0_0 r0_1 r0_2 r0_3 r0_4
  simp (disch := decide) only [View.ld_unit_lit]

/-- The first result array after the run. -/
theorem final10 (c : Dev nD) : (dats m 0 c).arrAt 10 (cfgs 0).N = (fun i : S65536x1024.Idx => row m c (i 0) (i 1)) := by
  refine (dats m 0 c).arrAt_eq_of_covers 10 _ (by decide +kernel) fun t _ y => ?_
  blk_simp
  rw [after0_10]
  frame_out
  obtain ⟨h, e⟩ := emb10 t y
  refine Eq.trans ?_ (congrArg (fun i : S65536x1024.Idx => row m c (i 0) (i 1)) e.symm)
  obtain ⟨p, q, rfl⟩ : ∃ (p : Fin 512) (q : Fin 1024), y = ix2 p q := ⟨y 0, y 1, eq_ix2 y⟩
  rw [pay3_eq]
  exact pay2_apply m c t p q ⟨t.val * 512 + p.val, h⟩ rfl

/-- The second result array after the run. -/
theorem final11 (c : Dev nD) : (dats m 0 c).arrAt 11 (cfgs 0).N = (fun i : S65536x1024.Idx =>
    FfnRow.norm (row m c (i 0)) (fun k => m ((c.tc : Thread nD τ).loc main_arg9) (ix1 k)) (i 1)) := by
  refine (dats m 0 c).arrAt_eq_of_covers 11 _ (by decide +kernel) fun t _ y => ?_
  blk_simp
  rw [after0_11]
  frame_out
  obtain ⟨h, e⟩ := emb11 t y
  refine Eq.trans ?_ (congrArg (fun i : S65536x1024.Idx =>
    FfnRow.norm (row m c (i 0)) (fun k => m ((c.tc : Thread nD τ).loc main_arg9) (ix1 k)) (i 1)) e.symm)
  obtain ⟨p, q, rfl⟩ : ∃ (p : Fin 512) (q : Fin 1024), y = ix2 p q := ⟨y 0, y 1, eq_ix2 y⟩
  rw [pay3_eq]
  refine (pay1_apply _ _ p q).trans ?_
  refine congrArg₂ (fun v g => FfnRow.norm v g q) (funext fun k => pay2_apply m c t p k ⟨t.val * 512 + p.val, h⟩ rfl) (funext fun k => ?_)
  blk_point [iblk, V, idx t]

end Cert.MergeIdeal.Row

end
-- ==== Proof.MergeEq.lean ====
module

public import proofs.«01_k».proof.Defs
public import proofs.«01_k».proof.Proof.MergeValue
public import proofs.«01_k».proof.Proof.Gen.Merge.Frame
public import proofs.«01_k».proof.Proof.Gen.MergeRefIdeal

@[expose] public section

noncomputable section

open Idealize.ShloMosaic Idealize.ShloMosaic.TcCoe Idealize.SL.Sem

namespace Cert.Proof.MergeEq

variable [hMerge : Cert.Merge.Facts] [hMergeIdeal : Cert.MergeIdeal.Facts] [hMergeRefIdeal : Cert.MergeRefIdeal.Facts]

/-- The merge call runs without fault and leaves its arguments unchanged, in every arithmetic. -/
theorem frame_p : Cert.quiescent_Merge := fun m ρ _ => Cert.Merge.Gen.frame m ρ

/-- The same of the idealized call. -/
theorem frame_i : Cert.quiescent_MergeIdeal := fun m ρ _ => Cert.MergeIdeal.Gen.frame m ρ

/-- The same of the reference: it has no semaphore, and its run says what the arguments hold. -/
theorem frame_r : Cert.quiescent_MergeRefIdeal := fun m ρ _ =>
  (θ_run Cert.MergeRefIdeal.defs _ _).mono (fun r h => ⟨fun c => (h c).2.2, Idealize.ShloMosaic.sem_eq_zero_of_no_sems (by decide) r.2⟩)
    (Cert.MergeRefIdeal.Row.run m ρ)

/-- Idealizing the merge call rewrote nothing. -/
theorem preserves : Cert.preserves_Merge_MergeIdeal := trivial

/-- The merge call and its reference compute the same two arrays from the same arguments. -/
theorem algebraic : Cert.algebraic_MergeIdeal_MergeRefIdeal := by
  intro m ρ m' ρ' _ hag
  have e (c : Dev Cert.MergeIdeal.nD) : Cert.MergeRefIdeal.Row.row m' c = Cert.MergeIdeal.Row.row m c := by
    obtain ⟨h0, h1, h2, h3, h4, h5, h6, h7, h8, h9⟩ := hag c
    unfold Cert.MergeRefIdeal.Row.row Cert.MergeIdeal.Row.row
    rw [h0, h1, h2, h3, h4, h5, h6, h7, h8]
  refine ⟨fun c (i : Cert.MergeIdeal.S65536x1024.Idx) => Cert.MergeIdeal.Row.row m c (i 0) (i 1),
    fun c (i : Cert.MergeIdeal.S65536x1024.Idx) => FfnRow.norm (Cert.MergeIdeal.Row.row m c (i 0))
      (fun k => m ((c.tc : Thread _ _).loc Cert.MergeIdeal.main_arg9) (ix1 k)) (i 1),
    (θ_run Cert.MergeIdeal.defs _ _).mono (fun _ h c => ⟨(h c).1.trans (Cert.MergeIdeal.Row.final10 m c),
      (h c).2.1.trans (Cert.MergeIdeal.Row.final11 m c), (h c).2.2⟩) (Cert.MergeIdeal.Value.run_blocks (F := Ideal) m ρ), ?_⟩
  refine (θ_run Cert.MergeRefIdeal.defs _ _).mono (fun _ h c => ⟨(h c).1.trans ?_, (h c).2.1.trans ?_, (h c).2.2⟩)
    (Cert.MergeRefIdeal.Row.run m' ρ')
  · rw [e c]
  · rw [e c, (hag c).2.2.2.2.2.2.2.2.2]

end Cert.Proof.MergeEq

end
-- ==== Proof.InProjIdealRun.lean ====
module

public import proofs.«01_k».proof.Proof.Gen.InProjIdeal.Frame
public import proofs.«01_k».proof.Proof.Gen.InProjIdeal.Skeleton

@[expose] public section

set_option maxRecDepth 16384

noncomputable section

namespace Cert.InProjIdeal.Hand

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 8000000 in
/-- One run of the projection body on any thirteen whole buffers: the stores it makes into each of its seven outputs,
    in order, found by running it; the six inputs are left as they were. -/
def bodyRun (c : Dev nD) (i : grid0.Coords)
    (arg2 : Memref sig .tc .vmem S8x64x1024 .f32) (harg2 : arg2.IsWhole)
    (arg3 : Memref sig .tc .vmem S1x1024 .f32) (harg3 : arg3.IsWhole)
    (arg4 : Memref sig .tc .vmem S1024x6144 .bf16) (harg4 : arg4.IsWhole)
    (arg5 : Memref sig .tc .vmem S64x128 .f32) (harg5 : arg5.IsWhole)
    (arg6 : Memref sig .tc .vmem S64x128 .f32) (harg6 : arg6.IsWhole)
    (arg7 : Memref sig .tc .vmem S64x128 .f32) (harg7 : arg7.IsWhole)
    (arg8 : Memref sig .tc .vmem S8x64x1024 .bf16) (harg8 : arg8.IsWhole)
    (arg9 : Memref sig .tc .vmem S8x64x256 .bf16) (harg9 : arg9.IsWhole)
    (arg10 : Memref sig .tc .vmem S8x64x256 .bf16) (harg10 : arg10.IsWhole)
    (arg11 : Memref sig .tc .vmem S1x10x512x128 .f32) (harg11 : arg11.IsWhole)
    (arg12 : Memref sig .tc .vmem S8x64x1280 .bf16) (harg12 : arg12.IsWhole)
    (arg13 : Memref sig .tc .vmem S8x64x1024 .bf16) (harg13 : arg13.IsWhole)
    (arg14 : Memref sig .tc .vmem S8x64x1024 .bf16) (harg14 : arg14.IsWhole)
    (x0 : Vec F S8x64x1024 .f32) (x1 : Vec F S1x1024 .f32) (x2 : Vec F S1024x6144 .bf16) (x3 : Vec F S64x128 .f32) (x4 : Vec F S64x128 .f32) (x5 : Vec F S64x128 .f32) :
    Σ' (L6 : List (View.Piece (Elt F) S8x64x1024 .bf16)), Σ' (L7 : List (View.Piece (Elt F) S8x64x256 .bf16)), Σ' (L8 : List (View.Piece (Elt F) S8x64x256 .bf16)), Σ' (L9 : List (View.Piece (Elt F) S1x10x512x128 .f32)), Σ' (L10 : List (View.Piece (Elt F) S8x64x1280 .bf16)), Σ' (L11 : List (View.Piece (Elt F) S8x64x1024 .bf16)), { L12 : List (View.Piece (Elt F) S8x64x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.InProjIdeal.Hand

end
-- ==== Proof.InProjIdealFrame.lean ====
module

public import proofs.«01_k».proof.Proof.InProjIdealRun
public import Idealize.ShloMosaic.Lib.Claim

@[expose] public section

set_option maxRecDepth 16384

noncomputable section

namespace Cert.InProjIdeal.Hand

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Window 0's current buffer at a point, and that it is a whole buffer. -/
abbrev buf0 (t : Fin cfg0.N) : Memref sig .tc .vmem S8x64x1024 .f32 := win0_0.stage (cfg0.slots t 0)
abbrev whole0 (t : Fin cfg0.N) : (buf0 t).IsWhole := hstage0_0 ((cfg0.slots t 0).cast nbuf0_0)
/-- Window 1's current buffer at a point, and that it is a whole buffer. -/
abbrev buf1 (t : Fin cfg0.N) : Memref sig .tc .vmem S1x1024 .f32 := win0_1.stage (cfg0.slots t 1)
abbrev whole1 (t : Fin cfg0.N) : (buf1 t).IsWhole := hstage0_1 ((cfg0.slots t 1).cast nbuf0_1)
/-- Window 2's current buffer at a point, and that it is a whole buffer. -/
abbrev buf2 (t : Fin cfg0.N) : Memref sig .tc .vmem S1024x6144 .bf16 := win0_2.stage (cfg0.slots t 2)
abbrev whole2 (t : Fin cfg0.N) : (buf2 t).IsWhole := hstage0_2 ((cfg0.slots t 2).cast nbuf0_2)
/-- Window 3's current buffer at a point, and that it is a whole buffer. -/
abbrev buf3 (t : Fin cfg0.N) : Memref sig .tc .vmem S64x128 .f32 := win0_3.stage (cfg0.slots t 3)
abbrev whole3 (t : Fin cfg0.N) : (buf3 t).IsWhole := hstage0_3 ((cfg0.slots t 3).cast nbuf0_3)
/-- Window 4's current buffer at a point, and that it is a whole buffer. -/
abbrev buf4 (t : Fin cfg0.N) : Memref sig .tc .vmem S64x128 .f32 := win0_4.stage (cfg0.slots t 4)
abbrev whole4 (t : Fin cfg0.N) : (buf4 t).IsWhole := hstage0_4 ((cfg0.slots t 4).cast nbuf0_4)
/-- Window 5's current buffer at a point, and that it is a whole buffer. -/
abbrev buf5 (t : Fin cfg0.N) : Memref sig .tc .vmem S64x128 .f32 := win0_5.stage (cfg0.slots t 5)
abbrev whole5 (t : Fin cfg0.N) : (buf5 t).IsWhole := hstage0_5 ((cfg0.slots t 5).cast nbuf0_5)
/-- Window 6's current buffer at a point, and that it is a whole buffer. -/
abbrev buf6 (t : Fin cfg0.N) : Memref sig .tc .vmem S8x64x1024 .bf16 := win0_6.stage (cfg0.slots t 6)
abbrev whole6 (t : Fin cfg0.N) : (buf6 t).IsWhole := hstage0_6 ((cfg0.slots t 6).cast nbuf0_6)
/-- Window 7's current buffer at a point, and that it is a whole buffer. -/
abbrev buf7 (t : Fin cfg0.N) : Memref sig .tc .vmem S8x64x256 .bf16 := win0_7.stage (cfg0.slots t 7)
abbrev whole7 (t : Fin cfg0.N) : (buf7 t).IsWhole := hstage0_7 ((cfg0.slots t 7).cast nbuf0_7)
/-- Window 8's current buffer at a point, and that it is a whole buffer. -/
abbrev buf8 (t : Fin cfg0.N) : Memref sig .tc .vmem S8x64x256 .bf16 := win0_8.stage (cfg0.slots t 8)
abbrev whole8 (t : Fin cfg0.N) : (buf8 t).IsWhole := hstage0_8 ((cfg0.slots t 8).cast nbuf0_8)
/-- Window 9's current buffer at a point, and that it is a whole buffer. -/
abbrev buf9 (t : Fin cfg0.N) : Memref sig .tc .vmem S1x10x512x128 .f32 := win0_9.stage (cfg0.slots t 9)
abbrev whole9 (t : Fin cfg0.N) : (buf9 t).IsWhole := hstage0_9 ((cfg0.slots t 9).cast nbuf0_9)
/-- Window 10's current buffer at a point, and that it is a whole buffer. -/
abbrev buf10 (t : Fin cfg0.N) : Memref sig .tc .vmem S8x64x1280 .bf16 := win0_10.stage (cfg0.slots t 10)
abbrev whole10 (t : Fin cfg0.N) : (buf10 t).IsWhole := hstage0_10 ((cfg0.slots t 10).cast nbuf0_10)
/-- Window 11's current buffer at a point, and that it is a whole buffer. -/
abbrev buf11 (t : Fin cfg0.N) : Memref sig .tc .vmem S8x64x1024 .bf16 := win0_11.stage (cfg0.slots t 11)
abbrev whole11 (t : Fin cfg0.N) : (buf11 t).IsWhole := hstage0_11 ((cfg0.slots t 11).cast nbuf0_11)
/-- Window 12's current buffer at a point, and that it is a whole buffer. -/
abbrev buf12 (t : Fin cfg0.N) : Memref sig .tc .vmem S8x64x1024 .bf16 := win0_12.stage (cfg0.slots t 12)
abbrev whole12 (t : Fin cfg0.N) : (buf12 t).IsWhole := hstage0_12 ((cfg0.slots t 12).cast nbuf0_12)

/-- The body's run at a point, on the point's buffers and input blocks. -/
def runAt (c : Dev nD) (t : Fin cfg0.N) :=
  bodyRun c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (iblk m c 0 t) (iblk m c 1 t) (iblk m c 2 t) (iblk m c 3 t) (iblk m c 4 t) (iblk m c 5 t)

/-- Every one of the eighty interleaved row sets of the recurrent input is stored: piece `(n, b)` has rows `b, b + 8, …`. -/
def interleaved (L : List (View.Piece (Elt F) S1x10x512x128 .f32)) : Bool :=
  (List.range 10).all fun n => (List.range 8).all fun b => L.any fun p =>
    Nat.beq (p.1.off 0) 0 && Nat.beq (p.1.off 1) n && Nat.beq (p.1.off 2) b && Nat.beq (p.1.off 3) 0
      && Nat.beq (p.1.size 0) 1 && Nat.beq (p.1.size 1) 1 && Nat.beq (p.1.size 2) 64 && Nat.beq (p.1.size 3) 128
      && Nat.beq (p.1.stride 0) 1 && Nat.beq (p.1.stride 1) 1 && Nat.beq (p.1.stride 2) 8 && Nat.beq (p.1.stride 3) 1

/-- Interleaved row sets cover the whole block. -/
theorem cover_of_interleaved (L : List (View.Piece (Elt F) S1x10x512x128 .f32)) (h : interleaved L = true)
    (y : S1x10x512x128.Idx) : ∃ p ∈ L, y ∈ p.1.set := by
  have y0 : (y 0).val < 1 := (y 0).isLt
  have y1 : (y 1).val < 10 := (y 1).isLt
  have y2 : (y 2).val < 512 := (y 2).isLt
  have y3 : (y 3).val < 128 := (y 3).isLt
  have h1 := List.all_eq_true.mp (List.all_eq_true.mp h (y 1).val (List.mem_range.mpr y1)) ((y 2).val % 8)
    (List.mem_range.mpr (Nat.mod_lt _ (by decide)))
  obtain ⟨p, hp, hq⟩ := List.any_eq_true.mp h1
  simp only [Bool.and_eq_true, Nat.beq_eq] at hq
  obtain ⟨⟨⟨⟨⟨⟨⟨⟨⟨⟨⟨o0, o1⟩, o2⟩, o3⟩, s0⟩, s1⟩, s2⟩, s3⟩, t0⟩, t1⟩, t2⟩, t3⟩ := hq
  refine ⟨p, hp, p.1.mem_set.mpr fun a => ?_⟩
  match a with
  | ⟨0, _⟩ => exact ⟨0, by rw [show p.1.size ⟨0, _⟩ = 1 from s0]; decide, by
      rw [show p.1.off ⟨0, _⟩ = 0 from o0]; exact (show (y 0).val = _ by omega)⟩
  | ⟨1, _⟩ => exact ⟨0, by rw [show p.1.size ⟨1, _⟩ = 1 from s1]; decide, by
      rw [show p.1.off ⟨1, _⟩ = (y 1).val from o1]; exact (show (y 1).val = _ by omega)⟩
  | ⟨2, _⟩ => exact ⟨(y 2).val / 8, by rw [show p.1.size ⟨2, _⟩ = 64 from s2]; omega, by
      rw [show p.1.off ⟨2, _⟩ = (y 2).val % 8 from o2, show p.1.stride ⟨2, _⟩ = 8 from t2]; exact (show (y 2).val = _ by omega)⟩
  | ⟨3, _⟩ => exact ⟨(y 3).val, by rw [show p.1.size ⟨3, _⟩ = 128 from s3]; omega, by
      rw [show p.1.off ⟨3, _⟩ = 0 from o3, show p.1.stride ⟨3, _⟩ = 1 from t3]; exact (show (y 3).val = _ by omega)⟩

/-- The stores into output 6 cover its block. -/
theorem cover6 (c : Dev nD) (i : grid0.Coords)
    (arg2 : Memref sig .tc .vmem S8x64x1024 .f32) (harg2 : arg2.IsWhole)
    (arg3 : Memref sig .tc .vmem S1x1024 .f32) (harg3 : arg3.IsWhole)
    (arg4 : Memref sig .tc .vmem S1024x6144 .bf16) (harg4 : arg4.IsWhole)
    (arg5 : Memref sig .tc .vmem S64x128 .f32) (harg5 : arg5.IsWhole)
    (arg6 : Memref sig .tc .vmem S64x128 .f32) (harg6 : arg6.IsWhole)
    (arg7 : Memref sig .tc .vmem S64x128 .f32) (harg7 : arg7.IsWhole)
    (arg8 : Memref sig .tc .vmem S8x64x1024 .bf16) (harg8 : arg8.IsWhole)
    (arg9 : Memref sig .tc .vmem S8x64x256 .bf16) (harg9 : arg9.IsWhole)
    (arg10 : Memref sig .tc .vmem S8x64x256 .bf16) (harg10 : arg10.IsWhole)
    (arg11 : Memref sig .tc .vmem S1x10x512x128 .f32) (harg11 : arg11.IsWhole)
    (arg12 : Memref sig .tc .vmem S8x64x1280 .bf16) (harg12 : arg12.IsWhole)
    (arg13 : Memref sig .tc .vmem S8x64x1024 .bf16) (harg13 : arg13.IsWhole)
    (arg14 : Memref sig .tc .vmem S8x64x1024 .bf16) (harg14 : arg14.IsWhole)
    (x0 : Vec F S8x64x1024 .f32) (x1 : Vec F S1x1024 .f32) (x2 : Vec F S1024x6144 .bf16) (x3 : Vec F S64x128 .f32) (x4 : Vec F S64x128 .f32) (x5 : Vec F S64x128 .f32) (y : S8x64x1024.Idx) :
    ∃ p ∈ (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).1, y ∈ p.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).1 S8x64x128.size (by sl_kernel_rfl) y

/-- A buffer of output 6, and what the body's stores leave in it at a point. -/
abbrev view6 : View sig .tc .vmem S8x64x1024 .bf16 := (Memref.whole cc0_stg6_0 : Memref sig .tc .vmem S8x64x1024 .bf16).view
def left6 (c : Dev nD) (t : Fin cfg0.N) : Vec F S8x64x1024 .bf16 :=
  view6.read (Elt F) (view6.writes (Elt F) view6.junk (runAt m c t).1)

/-- The stores into output 7 cover its block. -/
theorem cover7 (c : Dev nD) (i : grid0.Coords)
    (arg2 : Memref sig .tc .vmem S8x64x1024 .f32) (harg2 : arg2.IsWhole)
    (arg3 : Memref sig .tc .vmem S1x1024 .f32) (harg3 : arg3.IsWhole)
    (arg4 : Memref sig .tc .vmem S1024x6144 .bf16) (harg4 : arg4.IsWhole)
    (arg5 : Memref sig .tc .vmem S64x128 .f32) (harg5 : arg5.IsWhole)
    (arg6 : Memref sig .tc .vmem S64x128 .f32) (harg6 : arg6.IsWhole)
    (arg7 : Memref sig .tc .vmem S64x128 .f32) (harg7 : arg7.IsWhole)
    (arg8 : Memref sig .tc .vmem S8x64x1024 .bf16) (harg8 : arg8.IsWhole)
    (arg9 : Memref sig .tc .vmem S8x64x256 .bf16) (harg9 : arg9.IsWhole)
    (arg10 : Memref sig .tc .vmem S8x64x256 .bf16) (harg10 : arg10.IsWhole)
    (arg11 : Memref sig .tc .vmem S1x10x512x128 .f32) (harg11 : arg11.IsWhole)
    (arg12 : Memref sig .tc .vmem S8x64x1280 .bf16) (harg12 : arg12.IsWhole)
    (arg13 : Memref sig .tc .vmem S8x64x1024 .bf16) (harg13 : arg13.IsWhole)
    (arg14 : Memref sig .tc .vmem S8x64x1024 .bf16) (harg14 : arg14.IsWhole)
    (x0 : Vec F S8x64x1024 .f32) (x1 : Vec F S1x1024 .f32) (x2 : Vec F S1024x6144 .bf16) (x3 : Vec F S64x128 .f32) (x4 : Vec F S64x128 .f32) (x5 : Vec F S64x128 .f32) (y : S8x64x256.Idx) :
    ∃ p ∈ (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.1, y ∈ p.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.1 S8x64x128.size (by sl_kernel_rfl) y

/-- A buffer of output 7, and what the body's stores leave in it at a point. -/
abbrev view7 : View sig .tc .vmem S8x64x256 .bf16 := (Memref.whole cc0_stg7_0 : Memref sig .tc .vmem S8x64x256 .bf16).view
def left7 (c : Dev nD) (t : Fin cfg0.N) : Vec F S8x64x256 .bf16 :=
  view7.read (Elt F) (view7.writes (Elt F) view7.junk (runAt m c t).2.1)

/-- The stores into output 8 cover its block. -/
theorem cover8 (c : Dev nD) (i : grid0.Coords)
    (arg2 : Memref sig .tc .vmem S8x64x1024 .f32) (harg2 : arg2.IsWhole)
    (arg3 : Memref sig .tc .vmem S1x1024 .f32) (harg3 : arg3.IsWhole)
    (arg4 : Memref sig .tc .vmem S1024x6144 .bf16) (harg4 : arg4.IsWhole)
    (arg5 : Memref sig .tc .vmem S64x128 .f32) (harg5 : arg5.IsWhole)
    (arg6 : Memref sig .tc .vmem S64x128 .f32) (harg6 : arg6.IsWhole)
    (arg7 : Memref sig .tc .vmem S64x128 .f32) (harg7 : arg7.IsWhole)
    (arg8 : Memref sig .tc .vmem S8x64x1024 .bf16) (harg8 : arg8.IsWhole)
    (arg9 : Memref sig .tc .vmem S8x64x256 .bf16) (harg9 : arg9.IsWhole)
    (arg10 : Memref sig .tc .vmem S8x64x256 .bf16) (harg10 : arg10.IsWhole)
    (arg11 : Memref sig .tc .vmem S1x10x512x128 .f32) (harg11 : arg11.IsWhole)
    (arg12 : Memref sig .tc .vmem S8x64x1280 .bf16) (harg12 : arg12.IsWhole)
    (arg13 : Memref sig .tc .vmem S8x64x1024 .bf16) (harg13 : arg13.IsWhole)
    (arg14 : Memref sig .tc .vmem S8x64x1024 .bf16) (harg14 : arg14.IsWhole)
    (x0 : Vec F S8x64x1024 .f32) (x1 : Vec F S1x1024 .f32) (x2 : Vec F S1024x6144 .bf16) (x3 : Vec F S64x128 .f32) (x4 : Vec F S64x128 .f32) (x5 : Vec F S64x128 .f32) (y : S8x64x256.Idx) :
    ∃ p ∈ (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1, y ∈ p.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1 S8x64x256.size (by sl_kernel_rfl) y

/-- A buffer of output 8, and what the body's stores leave in it at a point. -/
abbrev view8 : View sig .tc .vmem S8x64x256 .bf16 := (Memref.whole cc0_stg8_0 : Memref sig .tc .vmem S8x64x256 .bf16).view
def left8 (c : Dev nD) (t : Fin cfg0.N) : Vec F S8x64x256 .bf16 :=
  view8.read (Elt F) (view8.writes (Elt F) view8.junk (runAt m c t).2.2.1)

/-- The stores into output 9 cover its block. -/
theorem cover9 (c : Dev nD) (i : grid0.Coords)
    (arg2 : Memref sig .tc .vmem S8x64x1024 .f32) (harg2 : arg2.IsWhole)
    (arg3 : Memref sig .tc .vmem S1x1024 .f32) (harg3 : arg3.IsWhole)
    (arg4 : Memref sig .tc .vmem S1024x6144 .bf16) (harg4 : arg4.IsWhole)
    (arg5 : Memref sig .tc .vmem S64x128 .f32) (harg5 : arg5.IsWhole)
    (arg6 : Memref sig .tc .vmem S64x128 .f32) (harg6 : arg6.IsWhole)
    (arg7 : Memref sig .tc .vmem S64x128 .f32) (harg7 : arg7.IsWhole)
    (arg8 : Memref sig .tc .vmem S8x64x1024 .bf16) (harg8 : arg8.IsWhole)
    (arg9 : Memref sig .tc .vmem S8x64x256 .bf16) (harg9 : arg9.IsWhole)
    (arg10 : Memref sig .tc .vmem S8x64x256 .bf16) (harg10 : arg10.IsWhole)
    (arg11 : Memref sig .tc .vmem S1x10x512x128 .f32) (harg11 : arg11.IsWhole)
    (arg12 : Memref sig .tc .vmem S8x64x1280 .bf16) (harg12 : arg12.IsWhole)
    (arg13 : Memref sig .tc .vmem S8x64x1024 .bf16) (harg13 : arg13.IsWhole)
    (arg14 : Memref sig .tc .vmem S8x64x1024 .bf16) (harg14 : arg14.IsWhole)
    (x0 : Vec F S8x64x1024 .f32) (x1 : Vec F S1x1024 .f32) (x2 : Vec F S1024x6144 .bf16) (x3 : Vec F S64x128 .f32) (x4 : Vec F S64x128 .f32) (x5 : Vec F S64x128 .f32) (y : S1x10x512x128.Idx) :
    ∃ p ∈ (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.1, y ∈ p.1.set :=
  cover_of_interleaved (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.1 (by sl_kernel_rfl) y

/-- A buffer of output 9, and what the body's stores leave in it at a point. -/
abbrev view9 : View sig .tc .vmem S1x10x512x128 .f32 := (Memref.whole cc0_stg9_0 : Memref sig .tc .vmem S1x10x512x128 .f32).view
def left9 (c : Dev nD) (t : Fin cfg0.N) : Vec F S1x10x512x128 .f32 :=
  view9.read (Elt F) (view9.writes (Elt F) view9.junk (runAt m c t).2.2.2.1)

/-- The stores into output 10 cover its block. -/
theorem cover10 (c : Dev nD) (i : grid0.Coords)
    (arg2 : Memref sig .tc .vmem S8x64x1024 .f32) (harg2 : arg2.IsWhole)
    (arg3 : Memref sig .tc .vmem S1x1024 .f32) (harg3 : arg3.IsWhole)
    (arg4 : Memref sig .tc .vmem S1024x6144 .bf16) (harg4 : arg4.IsWhole)
    (arg5 : Memref sig .tc .vmem S64x128 .f32) (harg5 : arg5.IsWhole)
    (arg6 : Memref sig .tc .vmem S64x128 .f32) (harg6 : arg6.IsWhole)
    (arg7 : Memref sig .tc .vmem S64x128 .f32) (harg7 : arg7.IsWhole)
    (arg8 : Memref sig .tc .vmem S8x64x1024 .bf16) (harg8 : arg8.IsWhole)
    (arg9 : Memref sig .tc .vmem S8x64x256 .bf16) (harg9 : arg9.IsWhole)
    (arg10 : Memref sig .tc .vmem S8x64x256 .bf16) (harg10 : arg10.IsWhole)
    (arg11 : Memref sig .tc .vmem S1x10x512x128 .f32) (harg11 : arg11.IsWhole)
    (arg12 : Memref sig .tc .vmem S8x64x1280 .bf16) (harg12 : arg12.IsWhole)
    (arg13 : Memref sig .tc .vmem S8x64x1024 .bf16) (harg13 : arg13.IsWhole)
    (arg14 : Memref sig .tc .vmem S8x64x1024 .bf16) (harg14 : arg14.IsWhole)
    (x0 : Vec F S8x64x1024 .f32) (x1 : Vec F S1x1024 .f32) (x2 : Vec F S1024x6144 .bf16) (x3 : Vec F S64x128 .f32) (x4 : Vec F S64x128 .f32) (x5 : Vec F S64x128 .f32) (y : S8x64x1280.Idx) :
    ∃ p ∈ (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.1, y ∈ p.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.1 S8x64x1280.size (by sl_kernel_rfl) y

/-- A buffer of output 10, and what the body's stores leave in it at a point. -/
abbrev view10 : View sig .tc .vmem S8x64x1280 .bf16 := (Memref.whole cc0_stg10_0 : Memref sig .tc .vmem S8x64x1280 .bf16).view
def left10 (c : Dev nD) (t : Fin cfg0.N) : Vec F S8x64x1280 .bf16 :=
  view10.read (Elt F) (view10.writes (Elt F) view10.junk (runAt m c t).2.2.2.2.1)

/-- The stores into output 11 cover its block. -/
theorem cover11 (c : Dev nD) (i : grid0.Coords)
    (arg2 : Memref sig .tc .vmem S8x64x1024 .f32) (harg2 : arg2.IsWhole)
    (arg3 : Memref sig .tc .vmem S1x1024 .f32) (harg3 : arg3.IsWhole)
    (arg4 : Memref sig .tc .vmem S1024x6144 .bf16) (harg4 : arg4.IsWhole)
    (arg5 : Memref sig .tc .vmem S64x128 .f32) (harg5 : arg5.IsWhole)
    (arg6 : Memref sig .tc .vmem S64x128 .f32) (harg6 : arg6.IsWhole)
    (arg7 : Memref sig .tc .vmem S64x128 .f32) (harg7 : arg7.IsWhole)
    (arg8 : Memref sig .tc .vmem S8x64x1024 .bf16) (harg8 : arg8.IsWhole)
    (arg9 : Memref sig .tc .vmem S8x64x256 .bf16) (harg9 : arg9.IsWhole)
    (arg10 : Memref sig .tc .vmem S8x64x256 .bf16) (harg10 : arg10.IsWhole)
    (arg11 : Memref sig .tc .vmem S1x10x512x128 .f32) (harg11 : arg11.IsWhole)
    (arg12 : Memref sig .tc .vmem S8x64x1280 .bf16) (harg12 : arg12.IsWhole)
    (arg13 : Memref sig .tc .vmem S8x64x1024 .bf16) (harg13 : arg13.IsWhole)
    (arg14 : Memref sig .tc .vmem S8x64x1024 .bf16) (harg14 : arg14.IsWhole)
    (x0 : Vec F S8x64x1024 .f32) (x1 : Vec F S1x1024 .f32) (x2 : Vec F S1024x6144 .bf16) (x3 : Vec F S64x128 .f32) (x4 : Vec F S64x128 .f32) (x5 : Vec F S64x128 .f32) (y : S8x64x1024.Idx) :
    ∃ p ∈ (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1, y ∈ p.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1 S8x64x1024.size (by sl_kernel_rfl) y

/-- A buffer of output 11, and what the body's stores leave in it at a point. -/
abbrev view11 : View sig .tc .vmem S8x64x1024 .bf16 := (Memref.whole cc0_stg11_0 : Memref sig .tc .vmem S8x64x1024 .bf16).view
def left11 (c : Dev nD) (t : Fin cfg0.N) : Vec F S8x64x1024 .bf16 :=
  view11.read (Elt F) (view11.writes (Elt F) view11.junk (runAt m c t).2.2.2.2.2.1)

/-- The stores into output 12 cover its block. -/
theorem cover12 (c : Dev nD) (i : grid0.Coords)
    (arg2 : Memref sig .tc .vmem S8x64x1024 .f32) (harg2 : arg2.IsWhole)
    (arg3 : Memref sig .tc .vmem S1x1024 .f32) (harg3 : arg3.IsWhole)
    (arg4 : Memref sig .tc .vmem S1024x6144 .bf16) (harg4 : arg4.IsWhole)
    (arg5 : Memref sig .tc .vmem S64x128 .f32) (harg5 : arg5.IsWhole)
    (arg6 : Memref sig .tc .vmem S64x128 .f32) (harg6 : arg6.IsWhole)
    (arg7 : Memref sig .tc .vmem S64x128 .f32) (harg7 : arg7.IsWhole)
    (arg8 : Memref sig .tc .vmem S8x64x1024 .bf16) (harg8 : arg8.IsWhole)
    (arg9 : Memref sig .tc .vmem S8x64x256 .bf16) (harg9 : arg9.IsWhole)
    (arg10 : Memref sig .tc .vmem S8x64x256 .bf16) (harg10 : arg10.IsWhole)
    (arg11 : Memref sig .tc .vmem S1x10x512x128 .f32) (harg11 : arg11.IsWhole)
    (arg12 : Memref sig .tc .vmem S8x64x1280 .bf16) (harg12 : arg12.IsWhole)
    (arg13 : Memref sig .tc .vmem S8x64x1024 .bf16) (harg13 : arg13.IsWhole)
    (arg14 : Memref sig .tc .vmem S8x64x1024 .bf16) (harg14 : arg14.IsWhole)
    (x0 : Vec F S8x64x1024 .f32) (x1 : Vec F S1x1024 .f32) (x2 : Vec F S1024x6144 .bf16) (x3 : Vec F S64x128 .f32) (x4 : Vec F S64x128 .f32) (x5 : Vec F S64x128 .f32) (y : S8x64x1024.Idx) :
    ∃ p ∈ (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.2.1, y ∈ p.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.2.1 S8x64x1024.size (by sl_kernel_rfl) y

/-- A buffer of output 12, and what the body's stores leave in it at a point. -/
abbrev view12 : View sig .tc .vmem S8x64x1024 .bf16 := (Memref.whole cc0_stg12_0 : Memref sig .tc .vmem S8x64x1024 .bf16).view
def left12 (c : Dev nD) (t : Fin cfg0.N) : Vec F S8x64x1024 .bf16 :=
  view12.read (Elt F) (view12.writes (Elt F) view12.junk (runAt m c t).2.2.2.2.2.2.1)

/-- What the pipeline's proof needs of the call: the arrays as the launch finds them, each input's buffer left holding
    its block, each output's what the body's stores leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left6 m c t
    | ⟨7, _⟩ => left7 m c t
    | ⟨8, _⟩ => left8 m c t
    | ⟨9, _⟩ => left9 m c t
    | ⟨10, _⟩ => left10 m c t
    | ⟨11, _⟩ => left11 m c t
    | ⟨12, _⟩ => left12 m c t
  Φ _ := Pipeline.ΦA spec0 c
  q _ := fullShare
  owed _ := 0

/-- Every array's contents at the launch. -/
theorem A_eq (c : Dev nD) (w : Fin cfg0.W) : (dats m 0 c).A w = V m c (Pipeline.arrRef spec0 w) := by
  dsimp only [dats]

/-- Array 0's buffer after the body. -/
theorem after0 (c : Dev nD) (t : Fin cfg0.N) : (dats m 0 c).after 0 t = iblk m c 0 t := by dsimp only [dats]
/-- Array 1's buffer after the body. -/
theorem after1 (c : Dev nD) (t : Fin cfg0.N) : (dats m 0 c).after 1 t = iblk m c 1 t := by dsimp only [dats]
/-- Array 2's buffer after the body. -/
theorem after2 (c : Dev nD) (t : Fin cfg0.N) : (dats m 0 c).after 2 t = iblk m c 2 t := by dsimp only [dats]
/-- Array 3's buffer after the body. -/
theorem after3 (c : Dev nD) (t : Fin cfg0.N) : (dats m 0 c).after 3 t = iblk m c 3 t := by dsimp only [dats]
/-- Array 4's buffer after the body. -/
theorem after4 (c : Dev nD) (t : Fin cfg0.N) : (dats m 0 c).after 4 t = iblk m c 4 t := by dsimp only [dats]
/-- Array 5's buffer after the body. -/
theorem after5 (c : Dev nD) (t : Fin cfg0.N) : (dats m 0 c).after 5 t = iblk m c 5 t := by dsimp only [dats]
/-- Array 6's buffer after the body. -/
theorem after6 (c : Dev nD) (t : Fin cfg0.N) : (dats m 0 c).after 6 t = left6 m c t := by dsimp only [dats]
/-- Array 7's buffer after the body. -/
theorem after7 (c : Dev nD) (t : Fin cfg0.N) : (dats m 0 c).after 7 t = left7 m c t := by dsimp only [dats]
/-- Array 8's buffer after the body. -/
theorem after8 (c : Dev nD) (t : Fin cfg0.N) : (dats m 0 c).after 8 t = left8 m c t := by dsimp only [dats]
/-- Array 9's buffer after the body. -/
theorem after9 (c : Dev nD) (t : Fin cfg0.N) : (dats m 0 c).after 9 t = left9 m c t := by dsimp only [dats]
/-- Array 10's buffer after the body. -/
theorem after10 (c : Dev nD) (t : Fin cfg0.N) : (dats m 0 c).after 10 t = left10 m c t := by dsimp only [dats]
/-- Array 11's buffer after the body. -/
theorem after11 (c : Dev nD) (t : Fin cfg0.N) : (dats m 0 c).after 11 t = left11 m c t := by dsimp only [dats]
/-- Array 12's buffer after the body. -/
theorem after12 (c : Dev nD) (t : Fin cfg0.N) : (dats m 0 c).after 12 t = left12 m c t := by dsimp only [dats]
/-- Array 0's buffer before the body. -/
theorem before0 (c : Dev nD) (t : Fin cfg0.N) (d) : (dats m 0 c).before 0 t d = iblk m c 0 t :=
  before0_0_of m (dats m 0 c) (A_eq m c 0) (after0 m c) t d
/-- Array 1's buffer before the body. -/
theorem before1 (c : Dev nD) (t : Fin cfg0.N) (d) : (dats m 0 c).before 1 t d = iblk m c 1 t :=
  before0_1_of m (dats m 0 c) (A_eq m c 1) (after1 m c) t d
/-- Array 2's buffer before the body. -/
theorem before2 (c : Dev nD) (t : Fin cfg0.N) (d) : (dats m 0 c).before 2 t d = iblk m c 2 t :=
  before0_2_of m (dats m 0 c) (A_eq m c 2) (after2 m c) t d
/-- Array 3's buffer before the body. -/
theorem before3 (c : Dev nD) (t : Fin cfg0.N) (d) : (dats m 0 c).before 3 t d = iblk m c 3 t :=
  before0_3_of m (dats m 0 c) (A_eq m c 3) (after3 m c) t d
/-- Array 4's buffer before the body. -/
theorem before4 (c : Dev nD) (t : Fin cfg0.N) (d) : (dats m 0 c).before 4 t d = iblk m c 4 t :=
  before0_4_of m (dats m 0 c) (A_eq m c 4) (after4 m c) t d
/-- Array 5's buffer before the body. -/
theorem before5 (c : Dev nD) (t : Fin cfg0.N) (d) : (dats m 0 c).before 5 t d = iblk m c 5 t :=
  before0_5_of m (dats m 0 c) (A_eq m c 5) (after5 m c) t d

/-- What the body is given at a point, and what it hands back. -/
def given (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d)))

def handed (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t)
    ∗ owns (c : Thread nD τ) (buf12 t) fullShare ((dats m 0 c).after 12 t))

set_option maxHeartbeats 1600000 in
/-- The body at any point does what the pipeline asks of it. -/
theorem body_ok (c : Dev nD) (t : Fin cfg0.N) :
    given m c t ⊢ wp frame (wpE (defs₀ (F := F)) Variants.none c none) Set.univ (bodyAt0 t) (fun _ => handed m c t) := by
  unfold given handed bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12]
  unfold left6 left7 left8 left9 left10 left11 left12 runAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((bodyRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, ⟨%e6, H6⟩, ⟨%e7, H7⟩, ⟨%e8, H8⟩, ⟨%e9, H9⟩, ⟨%e10, H10⟩, ⟨%e11, H11⟩, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover6 c _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover7 c _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover8 c _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover9 c _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover10 c _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover11 c _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover12 c _ _ _ _ _ _ _ _ _ _ _ _ _ _ _ _ _ _ _ _ _ _ _ _ _ _ _ _ _ _ _ _ _)

/-- The body's name at a point, in the table of bodies. -/
theorem body_row (t : Fin cfg0.N) :
    defs₀ (F := F) .tc cfg0.body (cfg0.bodyArgs t (cfg0.slots t)) = bodyAt0 t := by
  unfold defs₀; rw [Defs.onTc_tc]

/-- What the pipeline asks of the body, at every point. -/
theorem obligation (c : Dev nD) : BodyObligation (dats (F := F) m 0 c) (defs₀ (F := F)) Variants.none () Set.univ := fun t => by
  rw [bigSep_W0, bigSep_W0, body_row]
  exact triple_restated (body_ok m c t) rfl .rfl fun _ => .rfl

set_option backward.isDefEq.respectTransparency.types false in
/-- The launch: every array of the pipeline ends at what the body leaves, and no semaphore is left raised. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The launch: every array of the pipeline ends at what the body leaves. -/
theorem run_arrays : θ_run defs (onTc (τ := τ) (main (F := F))) (s₀ m ρ) (Pipeline.FramePost cfgs (dats m) 0 (V m)) :=
  (θ_run defs _ _).mono (fun _ h => h.1) (run_quiescent m ρ)

/-- The call ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_quiescent m ρ))

end Cert.InProjIdeal.Hand

end
-- ==== Proof.InProjRow.lean ====
module

public import proofs.«01_k».proof.Proof.FfnRef

@[expose] public section

set_option maxRecDepth 16384

noncomputable section

open Idealize.ShloMosaic Idealize.ShloMosaic.TcCoe Idealize.SL.Sem

namespace Cert.InProjRow

open Cert.FfnRow

/-- The angle of the rotary embedding at position `s`, frequency `k`. -/
def ang (s k : ℕ) : EReal :=
  FloatOps.sitofp (F := Ideal) FTy.f32 (BitVec.ofNat 32 s) * Ideal.pow (Ideal.ofBits .f32 0x48F42400#32)
    (Ideal.div (-FloatOps.sitofp (F := Ideal) FTy.f32 (BitVec.ofNat 32 k)) (Ideal.ofBits .f32 0x41800000#32))

/-- The rotary embedding of one head at position `s`: its first 32 lanes rotated in pairs 16 apart, the others as they are. -/
def rope (s : ℕ) (t : Fin 128 → EReal) (l : Fin 128) : EReal :=
  if h : l.val < 32 then
    if h1 : l.val < 16 then
      t ⟨l, by omega⟩ * Ideal.cos (ang s l) - t ⟨16 + l, by omega⟩ * Ideal.sin (ang s l)
    else t ⟨16 + (l - 16), by omega⟩ * Ideal.cos (ang s (l - 16)) + t ⟨l - 16, by omega⟩ * Ideal.sin (ang s (l - 16))
  else t ⟨32 + (l - 32), by omega⟩

/-- The gaussian unit in its form with a hyperbolic tangent. -/
def gelu (v : EReal) : EReal :=
  v * (Ideal.ofBits .f32 0x3F000000#32 * (1 + Ideal.tanh (Ideal.ofBits .f32 0x3F4C422A#32 *
    (v + Ideal.ofBits .f32 0x3D372713#32 * (v * v * v)))))

/-- The logistic function. -/
def logistic (v : EReal) : EReal := Ideal.div 1 (1 + Ideal.exp (-v))

/-- The arguments as functions of their indices. -/
structure Args where
  /-- The residual stream: sequence, position, channel. -/
  x : Fin 16 → Fin 4096 → Fin 1024 → EReal
  /-- The weight of the norm. -/
  g : Fin 1024 → EReal
  /-- The projection. -/
  w : Fin 1024 → Fin 6144 → EReal

variable (a : Args) (b : Fin 16) (s : Fin 4096)

/-- The projection of one token's normalized row. -/
def z (j : Fin 6144) : EReal := dot (norm (a.x b s) a.g) a.w j

/-- Query head `n`, lane `l`, of one token. -/
def q (n : Fin 8) (l : Fin 128) : EReal := rope s (fun l => z a b s ⟨n * 128 + l, by omega⟩) l * Ideal.ofBits .f32 0x3DB504F3#32

/-- Key head `n`, lane `l`, of one token. -/
def k (n : Fin 2) (l : Fin 128) : EReal := rope s (fun l => z a b s ⟨1024 + (n * 128 + l), by omega⟩) l

/-- All queries. -/
def Q (i : (⟨3, ![16, 4096, 1024]⟩ : Shape).Idx) : EReal :=
  q a (i 0) (i 1) ⟨(i 2).val / 128, Nat.div_lt_of_lt_mul (i 2).isLt⟩ ⟨(i 2).val % 128, Nat.mod_lt _ (by decide)⟩

/-- All keys. -/
def K (i : (⟨3, ![16, 4096, 256]⟩ : Shape).Idx) : EReal :=
  k a (i 0) (i 1) ⟨(i 2).val / 128, Nat.div_lt_of_lt_mul (i 2).isLt⟩ ⟨(i 2).val % 128, Nat.mod_lt _ (by decide)⟩

/-- All values. -/
def W (i : (⟨3, ![16, 4096, 256]⟩ : Shape).Idx) : EReal :=
  z a (i 0) (i 1) ⟨1280 + (i 2).val, by have : (i 2).val < 256 := (i 2).isLt; omega⟩

/-- The recurrent input, eight sequences side by side and a plane per 128 channels. -/
def X (i : (⟨4, ![2, 10, 32768, 128]⟩ : Shape).Idx) : EReal :=
  z a ⟨(i 0).val * 8 + (i 2).val % 8, by have : (i 0).val < 2 := (i 0).isLt; omega⟩
    ⟨(i 2).val / 8, Nat.div_lt_of_lt_mul (i 2).isLt⟩
    ⟨1536 + ((i 1).val * 128 + (i 3).val), by
      have : (i 1).val < 10 := (i 1).isLt
      have : (i 3).val < 128 := (i 3).isLt
      omega⟩

/-- The recurrent gate. -/
def R (i : (⟨3, ![16, 4096, 1280]⟩ : Shape).Idx) : EReal :=
  gelu (z a (i 0) (i 1) ⟨2816 + (i 2).val, by have : (i 2).val < 1280 := (i 2).isLt; omega⟩)

/-- The gate of the attention branch. -/
def GA (i : (⟨3, ![16, 4096, 1024]⟩ : Shape).Idx) : EReal :=
  logistic (z a (i 0) (i 1) ⟨4096 + (i 2).val, by have : (i 2).val < 1024 := (i 2).isLt; omega⟩)

/-- The gate of the recurrent branch. -/
def GR (i : (⟨3, ![16, 4096, 1024]⟩ : Shape).Idx) : EReal :=
  logistic (z a (i 0) (i 1) ⟨5120 + (i 2).val, by have : (i 2).val < 1024 := (i 2).isLt; omega⟩)

/-- The queries at head `n`, lane `l`. -/
theorem Q_apply (n : Fin 8) (l : Fin 128) : Q a (ix3 b s ⟨n * 128 + l, by omega⟩) = q a b s n l := by
  show q a b s _ _ = _
  congr 1 <;> apply Fin.ext
  · show (n.val * 128 + l.val) / 128 = _; omega
  · show (n.val * 128 + l.val) % 128 = _; omega

/-- The keys at head `n`, lane `l`. -/
theorem K_apply (n : Fin 2) (l : Fin 128) : K a (ix3 b s ⟨n * 128 + l, by omega⟩) = k a b s n l := by
  show k a b s _ _ = _
  congr 1 <;> apply Fin.ext
  · show (n.val * 128 + l.val) / 128 = _; omega
  · show (n.val * 128 + l.val) % 128 = _; omega

/-- The recurrent input at position `s` of sequence `g * 8 + e`. -/
theorem X_apply (g : Fin 2) (e : Fin 8) (n : Fin 10) (l : Fin 128) : X a (ix4 g n ⟨s * 8 + e, by omega⟩ l)
    = z a ⟨g * 8 + e, by omega⟩ s ⟨1536 + (n * 128 + l), by omega⟩ := by
  show z a ⟨g * 8 + (s.val * 8 + e.val) % 8, _⟩ ⟨(s.val * 8 + e.val) / 8, _⟩ _ = _
  congr 1 <;> apply Fin.ext
  · show g.val * 8 + (s.val * 8 + e.val) % 8 = g.val * 8 + e.val; omega
  · show (s.val * 8 + e.val) / 8 = s.val; omega

end Cert.InProjRow

end
-- ==== Proof.InProjHeads.lean ====
module

public import proofs.«01_k».proof.Proof.InProjIdealFrame
public import proofs.«01_k».proof.Proof.InProjRow
public import proofs.«01_k».proof.Proof.Sigmoid
public import Idealize.ShloMosaic.Lib.Pipeline.ValueKit

@[expose] public section

set_option maxRecDepth 16384

noncomputable section

open Idealize.ShloMosaic Idealize.ShloMosaic.TcCoe Idealize.SL.Sem

namespace Cert.InProjIdeal.Row

open Cert.InProjIdeal Cert.InProjIdeal.Gen

/-- A head's 128 lanes against the three tables: the lanes as they are, turned up 16 and turned down 16. -/
def turn (rc rs rn t : Fin 128 → EReal) (l : Fin 128) : EReal :=
  t l * rc l + t ⟨(l + 128 - 16) % 128, Nat.mod_lt _ (by decide)⟩ * rs l + t ⟨(l + 128 - 112) % 128, Nat.mod_lt _ (by decide)⟩ * rn l

/-- Query head 0. -/
theorem head_0 (x : Vec Ideal S8x64x1024 .f32) (g : Vec Ideal S1x1024 .f32) (w : Vec Ideal S1024x1024 .bf16) (rc rs rn : Vec Ideal S64x128 .f32) (b : Fin 8) (p : Fin 64) (l : Fin 128) :
    (k0_pay12 (k0_pay6 rn) (k0_pay9 x g w) (k0_pay10 x g rc w) (k0_pay11 x g rs w)) (ix3 b p l) = turn (fun l => rc (ix2 p l)) (fun l => rs (ix2 p l)) (fun l => rn (ix2 p l))
      (fun l => (k0_pay7 x g w) (ix2 ⟨b * 64 + p, by omega⟩ ⟨l, by omega⟩)) l * Ideal.ofBits .f32 0x3DB504F3#32 := by
  pointwise [k0_pay12, k0_pay9, k0_pay10, k0_pay11, k0_pay8, k0_pay4, k0_pay5, k0_pay6, turn]

/-- Query head 1. -/
theorem head_1 (z : FVec Ideal S512x1024 .f32) (rc rs rn : Vec Ideal S64x128 .f32) (b : Fin 8) (p : Fin 64) (l : Fin 128) :
    (k0_pay13 (k0_pay4 rc) (k0_pay5 rs) (k0_pay6 rn) z) (ix3 b p l) = turn (fun l => rc (ix2 p l)) (fun l => rs (ix2 p l)) (fun l => rn (ix2 p l))
      (fun l => (z) (ix2 ⟨b * 64 + p, by omega⟩ ⟨128 + l, by omega⟩)) l * Ideal.ofBits .f32 0x3DB504F3#32 := by
  pointwise [k0_pay13, k0_pay4, k0_pay5, k0_pay6, turn]

/-- Query head 2. -/
theorem head_2 (z : FVec Ideal S512x1024 .f32) (rc rs rn : Vec Ideal S64x128 .f32) (b : Fin 8) (p : Fin 64) (l : Fin 128) :
    (k0_pay14 (k0_pay4 rc) (k0_pay5 rs) (k0_pay6 rn) z) (ix3 b p l) = turn (fun l => rc (ix2 p l)) (fun l => rs (ix2 p l)) (fun l => rn (ix2 p l))
      (fun l => (z) (ix2 ⟨b * 64 + p, by omega⟩ ⟨256 + l, by omega⟩)) l * Ideal.ofBits .f32 0x3DB504F3#32 := by
  pointwise [k0_pay14, k0_pay4, k0_pay5, k0_pay6, turn]

/-- Query head 3. -/
theorem head_3 (z : FVec Ideal S512x1024 .f32) (rc rs rn : Vec Ideal S64x128 .f32) (b : Fin 8) (p : Fin 64) (l : Fin 128) :
    (k0_pay15 (k0_pay4 rc) (k0_pay5 rs) (k0_pay6 rn) z) (ix3 b p l) = turn (fun l => rc (ix2 p l)) (fun l => rs (ix2 p l)) (fun l => rn (ix2 p l))
      (fun l => (z) (ix2 ⟨b * 64 + p, by omega⟩ ⟨384 + l, by omega⟩)) l * Ideal.ofBits .f32 0x3DB504F3#32 := by
  pointwise [k0_pay15, k0_pay4, k0_pay5, k0_pay6, turn]

/-- Query head 4. -/
theorem head_4 (z : FVec Ideal S512x1024 .f32) (rc rs rn : Vec Ideal S64x128 .f32) (b : Fin 8) (p : Fin 64) (l : Fin 128) :
    (k0_pay16 (k0_pay4 rc) (k0_pay5 rs) (k0_pay6 rn) z) (ix3 b p l) = turn (fun l => rc (ix2 p l)) (fun l => rs (ix2 p l)) (fun l => rn (ix2 p l))
      (fun l => (z) (ix2 ⟨b * 64 + p, by omega⟩ ⟨512 + l, by omega⟩)) l * Ideal.ofBits .f32 0x3DB504F3#32 := by
  pointwise [k0_pay16, k0_pay4, k0_pay5, k0_pay6, turn]

/-- Query head 5. -/
theorem head_5 (z : FVec Ideal S512x1024 .f32) (rc rs rn : Vec Ideal S64x128 .f32) (b : Fin 8) (p : Fin 64) (l : Fin 128) :
    (k0_pay20 (k0_pay4 rc) (k0_pay5 rs) (k0_pay6 rn) (k0_pay17 z) (k0_pay18 z) (k0_pay19 z)) (ix3 b p l) = turn (fun l => rc (ix2 p l)) (fun l => rs (ix2 p l)) (fun l => rn (ix2 p l))
      (fun l => (z) (ix2 ⟨b * 64 + p, by omega⟩ ⟨640 + l, by omega⟩)) l * Ideal.ofBits .f32 0x3DB504F3#32 := by
  pointwise [k0_pay20, k0_pay17, k0_pay18, k0_pay19, k0_pay4, k0_pay5, k0_pay6, turn]

/-- Query head 6. -/
theorem head_6 (z : FVec Ideal S512x1024 .f32) (rc rs rn : Vec Ideal S64x128 .f32) (b : Fin 8) (p : Fin 64) (l : Fin 128) :
    (k0_pay21 (k0_pay4 rc) (k0_pay5 rs) (k0_pay6 rn) z) (ix3 b p l) = turn (fun l => rc (ix2 p l)) (fun l => rs (ix2 p l)) (fun l => rn (ix2 p l))
      (fun l => (z) (ix2 ⟨b * 64 + p, by omega⟩ ⟨768 + l, by omega⟩)) l * Ideal.ofBits .f32 0x3DB504F3#32 := by
  pointwise [k0_pay21, k0_pay4, k0_pay5, k0_pay6, turn]

/-- Query head 7. -/
theorem head_7 (z : FVec Ideal S512x1024 .f32) (rc rs rn : Vec Ideal S64x128 .f32) (b : Fin 8) (p : Fin 64) (l : Fin 128) :
    (k0_pay23 (k0_pay22 (k0_pay4 rc) (k0_pay5 rs) (k0_pay6 rn) z) (FloatOps.ofBits FTy.f32 1035273459#32)) (ix3 b p l) = turn (fun l => rc (ix2 p l)) (fun l => rs (ix2 p l)) (fun l => rn (ix2 p l))
      (fun l => (z) (ix2 ⟨b * 64 + p, by omega⟩ ⟨896 + l, by omega⟩)) l * Ideal.ofBits .f32 0x3DB504F3#32 := by
  pointwise [k0_pay23, k0_pay22, k0_pay4, k0_pay5, k0_pay6, turn]

/-- Key head 0. -/
theorem khead_0 (h : FVec Ideal S512x1024 .bf16) (w : Vec Ideal S1024x256 .bf16) (rc rs rn : Vec Ideal S64x128 .f32) (b : Fin 8) (p : Fin 64) (l : Fin 128) :
    (k0_pay25 h (k0_pay4 rc) (k0_pay5 rs) (k0_pay6 rn) w) (ix3 b p l) = turn (fun l => rc (ix2 p l)) (fun l => rs (ix2 p l)) (fun l => rn (ix2 p l))
      (fun l => (k0_pay24 h w) (ix2 ⟨b * 64 + p, by omega⟩ ⟨l, by omega⟩)) l := by
  pointwise [k0_pay25, k0_pay4, k0_pay5, k0_pay6, turn]

/-- Key head 1. -/
theorem khead_1 (h : FVec Ideal S512x1024 .bf16) (w : Vec Ideal S1024x256 .bf16) (rc rs rn : Vec Ideal S64x128 .f32) (b : Fin 8) (p : Fin 64) (l : Fin 128) :
    (k0_pay26 h (k0_pay4 rc) (k0_pay5 rs) (k0_pay6 rn) w) (ix3 b p l) = turn (fun l => rc (ix2 p l)) (fun l => rs (ix2 p l)) (fun l => rn (ix2 p l))
      (fun l => (k0_pay24 h w) (ix2 ⟨b * 64 + p, by omega⟩ ⟨128 + l, by omega⟩)) l := by
  pointwise [k0_pay26, k0_pay4, k0_pay5, k0_pay6, turn]

/-- The projection's product at row `p` of sequence `b`. -/
theorem z7 (x : Vec Ideal S8x64x1024 .f32) (g : Vec Ideal S1x1024 .f32) (w : Vec Ideal S1024x1024 .bf16) (b : Fin 8) (p : Fin 64) (j : Fin 1024) :
    k0_pay7 x g w (ix2 ⟨b * 64 + p, by omega⟩ j)
      = FfnRow.dot (FfnRow.norm (fun k => x (ix3 b p k)) (fun k => g (ix2 0 k))) (fun i j => w (ix2 i j)) j := by
  pointwise [k0_pay7, k0_pay3, FfnRow.norm, FfnRow.dot]

/-- The same of the keys' columns. -/
theorem z24 (x : Vec Ideal S8x64x1024 .f32) (g : Vec Ideal S1x1024 .f32) (w : Vec Ideal S1024x256 .bf16) (b : Fin 8) (p : Fin 64) (j : Fin 256) :
    k0_pay24 (k0_pay3 x g) w (ix2 ⟨b * 64 + p, by omega⟩ j)
      = FfnRow.dot (FfnRow.norm (fun k => x (ix3 b p k)) (fun k => g (ix2 0 k))) (fun i j => w (ix2 i j)) j := by
  pointwise [k0_pay24, k0_pay3, FfnRow.norm, FfnRow.dot]

/-- The same of the values' columns. -/
theorem z27 (x : Vec Ideal S8x64x1024 .f32) (g : Vec Ideal S1x1024 .f32) (w : Vec Ideal S1024x256 .bf16) (b : Fin 8) (p : Fin 64) (j : Fin 256) :
    k0_pay27 (k0_pay3 x g) w (ix3 b p j)
      = FfnRow.dot (FfnRow.norm (fun k => x (ix3 b p k)) (fun k => g (ix2 0 k))) (fun i j => w (ix2 i j)) j := by
  pointwise [k0_pay27, k0_pay3, FfnRow.norm, FfnRow.dot]

/-- The same of the recurrent input's columns. -/
theorem z28 (x : Vec Ideal S8x64x1024 .f32) (g : Vec Ideal S1x1024 .f32) (w : Vec Ideal S1024x1280 .bf16) (b : Fin 8) (p : Fin 64) (j : Fin 1280) :
    k0_pay28 (k0_pay3 x g) w (ix2 ⟨b * 64 + p, by omega⟩ j)
      = FfnRow.dot (FfnRow.norm (fun k => x (ix3 b p k)) (fun k => g (ix2 0 k))) (fun i j => w (ix2 i j)) j := by
  pointwise [k0_pay28, k0_pay3, FfnRow.norm, FfnRow.dot]

/-- The recurrent gate's columns, through the gaussian unit. -/
theorem z121 (x : Vec Ideal S8x64x1024 .f32) (g : Vec Ideal S1x1024 .f32) (w : Vec Ideal S1024x1280 .bf16) (b : Fin 8) (p : Fin 64) (j : Fin 1280) :
    k0_pay121 (k0_pay3 x g) w (ix3 b p j)
      = InProjRow.gelu (FfnRow.dot (FfnRow.norm (fun k => x (ix3 b p k)) (fun k => g (ix2 0 k))) (fun i j => w (ix2 i j)) j) := by
  pointwise [k0_pay121, k0_pay3]
  show _ = InProjRow.gelu (∑ i, FfnRow.norm (fun k => x (ix3 b p k)) (fun k => g (ix2 0 k)) i * w (ix2 i j))
  unfold FfnRow.norm
  generalize (∑ i, x (ix3 b p i) * _ * _ * _) = v
  unfold InProjRow.gelu
  rw [mul_comm (v * v) v]

/-- The attention gate's columns, through the logistic function. -/
theorem z122 (x : Vec Ideal S8x64x1024 .f32) (g : Vec Ideal S1x1024 .f32) (w : Vec Ideal S1024x1024 .bf16) (b : Fin 8) (p : Fin 64) (j : Fin 1024) :
    k0_pay1 (k0_pay122 (k0_pay3 x g) w) (ix3 b p j)
      = InProjRow.logistic (FfnRow.dot (FfnRow.norm (fun k => x (ix3 b p k)) (fun k => g (ix2 0 k))) (fun i j => w (ix2 i j)) j) := by
  unfold InProjRow.logistic
  rw [← Cert.Sig.half_tanh]
  pointwise [k0_pay1, k0_pay122, k0_pay3, FfnRow.norm, FfnRow.dot]

/-- The recurrent branch's gate, the same. -/
theorem z2 (x : Vec Ideal S8x64x1024 .f32) (g : Vec Ideal S1x1024 .f32) (w : Vec Ideal S1024x1024 .bf16) (b : Fin 8) (p : Fin 64) (j : Fin 1024) :
    k0_pay2 (k0_pay3 x g) w (ix3 b p j)
      = InProjRow.logistic (FfnRow.dot (FfnRow.norm (fun k => x (ix3 b p k)) (fun k => g (ix2 0 k))) (fun i j => w (ix2 i j)) j) := by
  unfold InProjRow.logistic
  rw [← Cert.Sig.half_tanh]
  pointwise [k0_pay2, k0_pay3, FfnRow.norm, FfnRow.dot]

end Cert.InProjIdeal.Row

end
-- ==== Proof.InProjTables.lean ====
module

public import proofs.«01_k».proof.Proof.InProjIdealFrame
public import proofs.«01_k».proof.Proof.InProjHeads

@[expose] public section

set_option maxRecDepth 16384

noncomputable section

open Idealize.ShloMosaic Idealize.ShloMosaic.TcCoe Idealize.SL.Sem
open Idealize.ShloMosaic.Pipeline (Dat)

namespace Cert.InProjIdeal.Row

open Cert.InProjIdeal Cert.InProjIdeal.Gen Cert.InProjIdeal.Hand

variable (m : (ℓ : Loc nD τ sig) → Buf (Elt Ideal) ℓ)

/-- The host's angles: position times inverse frequency. -/
def angles : FVec Ideal S4096x16 .f32 :=
  mulf (broadcastInDim S4096x16 ![0, 1] bcast_S4096x1_S4096x16_0_1 (broadcastInDim S4096x1 ![0] bcast_S4096_S4096x1_0
      (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

/-- The host's table of cosines: each angle twice, then ones. -/
def cosines : FVec Ideal S4096x128 .f32 :=
  concatenate S4096x128 1 [⟨S4096x16, Host.cos angles⟩, ⟨S4096x16, Host.cos angles⟩,
    ⟨S4096x96, broadcastInDim S4096x96 ![] bcast_S_S4096x96 (constant S_ .f32 0x3F800000#32)⟩]
    concatenates_S4096x16_S4096x16_S4096x96_S4096x128_d1

/-- The host's table of sines for the upper half of a pair. -/
def sines : FVec Ideal S4096x128 .f32 :=
  concatenate S4096x128 1 [⟨S4096x16, broadcastInDim S4096x16 ![] bcast_S_S4096x16 (constant S_ .f32 0x00000000#32)⟩,
    ⟨S4096x16, Host.sin angles⟩, ⟨S4096x96, broadcastInDim S4096x96 ![] bcast_S_S4096x96 (constant S_ .f32 0x00000000#32)⟩]
    concatenates_S4096x16_S4096x16_S4096x96_S4096x128_d1

/-- The host's table of negated sines for the lower half of a pair. -/
def negSines : FVec Ideal S4096x128 .f32 :=
  concatenate S4096x128 1 [⟨S4096x16, Host.negf (Host.sin angles)⟩,
    ⟨S4096x16, broadcastInDim S4096x16 ![] bcast_S_S4096x16 (constant S_ .f32 0x00000000#32)⟩,
    ⟨S4096x96, broadcastInDim S4096x96 ![] bcast_S_S4096x96 (constant S_ .f32 0x00000000#32)⟩]
    concatenates_S4096x16_S4096x16_S4096x96_S4096x128_d1

set_option maxHeartbeats 4000000 in
/-- The first table is in memory when the call runs. -/
theorem V20 (c : Dev nD) : V m c main_v20 = cosines := by
  unfold V
  after_results
  rfl

set_option maxHeartbeats 4000000 in
/-- So is the second. -/
theorem V21 (c : Dev nD) : V m c main_v21 = sines := by
  unfold V
  after_results
  rfl

set_option maxHeartbeats 4000000 in
/-- So is the third. -/
theorem V23 (c : Dev nD) : V m c main_v23 = negSines := by
  unfold V
  after_results
  rfl

/-- So is the norm's weight, as a row. -/
theorem V0 (c : Dev nD) (k : Fin 1024) : V m c main_v0 (ix2 0 k) = m ((c.tc : Thread nD τ).loc main_arg1) (ix1 k) := by
  entry_read
  pointwise []

/-- So is the projection. -/
theorem V1 (c : Dev nD) (i : Fin 1024) (j : Fin 6144) : V m c main_v1 (ix2 i j) = m ((c.tc : Thread nD τ).loc main_arg2) (ix2 i j) := by
  entry_read
  pointwise []

/-- The cosines, entry by entry. -/
theorem cosines_apply (s : Fin 4096) (l : Fin 128) : cosines (ix2 s l)
    = if _ : l.val < 16 then Ideal.cos (InProjRow.ang s l) else if _ : l.val - 16 < 16 then Ideal.cos (InProjRow.ang s (l - 16)) else 1 := by
  unfold cosines angles
  pointwise [InProjRow.ang]

/-- The sines. -/
theorem sines_apply (s : Fin 4096) (l : Fin 128) : sines (ix2 s l)
    = if _ : l.val < 16 then 0 else if _ : l.val - 16 < 16 then Ideal.sin (InProjRow.ang s (l - 16)) else 0 := by
  unfold sines angles
  pointwise [InProjRow.ang]

/-- The negated sines. -/
theorem negSines_apply (s : Fin 4096) (l : Fin 128) : negSines (ix2 s l)
    = if _ : l.val < 16 then -Ideal.sin (InProjRow.ang s l) else if _ : l.val - 16 < 16 then 0 else 0 := by
  unfold negSines angles
  pointwise [InProjRow.ang]

/-- A head against the three tables is its rotary embedding. -/
theorem turn_rope (s : Fin 4096) (t : Fin 128 → EReal) (l : Fin 128) :
    turn (fun l => cosines (ix2 s l)) (fun l => sines (ix2 s l)) (fun l => negSines (ix2 s l)) t l = InProjRow.rope s t l := by
  unfold turn InProjRow.rope
  show t l * cosines (ix2 s l) + _ * sines (ix2 s l) + _ * negSines (ix2 s l) = _
  rw [cosines_apply, sines_apply, negSines_apply]
  by_cases h : l.val < 16
  · have e : (⟨(l.val + 128 - 112) % 128, Nat.mod_lt _ (by decide)⟩ : Fin 128) = ⟨16 + l.val, by omega⟩ :=
      Fin.ext (by show (l.val + 128 - 112) % 128 = 16 + l.val; omega)
    rw [dif_pos h, dif_pos h, dif_pos h, dif_pos (by omega), dif_pos h, e, mul_zero, add_zero, mul_neg, sub_eq_add_neg]
  · by_cases h2 : l.val < 32
    · have e : (⟨(l.val + 128 - 16) % 128, Nat.mod_lt _ (by decide)⟩ : Fin 128) = ⟨l.val - 16, by omega⟩ :=
        Fin.ext (by show (l.val + 128 - 16) % 128 = l.val - 16; omega)
      have e' : (⟨16 + (l.val - 16), by omega⟩ : Fin 128) = l := Fin.ext (by show 16 + (l.val - 16) = l.val; omega)
      rw [dif_neg h, dif_neg h, dif_neg h, dif_pos h2, dif_neg h, dif_pos (by omega), dif_pos (by omega), dif_pos (by omega), e, e',
        mul_zero, add_zero]
    · have e' : (⟨32 + (l.val - 32), by omega⟩ : Fin 128) = l := Fin.ext (by show 32 + (l.val - 32) = l.val; omega)
      rw [dif_neg h, dif_neg h, dif_neg h, dif_neg h2, dif_neg (by omega), dif_neg (by omega), dif_neg (by omega), e',
        mul_zero, mul_zero, add_zero, add_zero, mul_one]

end Cert.InProjIdeal.Row

end
-- ==== Proof.InProjPieces.lean ====
module

public import proofs.«01_k».proof.Proof.InProjIdealFrame
public import Idealize.ShloMosaic.Lib.Pipeline.ValueKit

@[expose] public section

set_option maxRecDepth 16384

noncomputable section

open Idealize.ShloMosaic Idealize.ShloMosaic.TcCoe Idealize.SL.Sem

namespace Cert.InProjIdeal.Row

open Cert.InProjIdeal Cert.InProjIdeal.Gen

/-! What each store into the recurrent input holds: 64 positions of one sequence, 128 channels of the projection. -/

/-- Plane 0, sequence 0. -/
theorem piece_0_0 (h : FVec Ideal S512x1024 .bf16) (w : Vec Ideal S1024x1280 .bf16) (s : Fin 64) (l : Fin 128) :
    (k0_pay29 h w) (ix4 0 0 s l) = (k0_pay28 h w) (ix2 ⟨0 * 64 + s, by omega⟩ ⟨0 * 128 + l, by omega⟩) := by
  pointwise [k0_pay29]

/-- Plane 0, sequence 1. -/
theorem piece_0_1 (h : FVec Ideal S512x1024 .bf16) (w : Vec Ideal S1024x1280 .bf16) (s : Fin 64) (l : Fin 128) :
    (k0_pay30 h w) (ix4 0 0 s l) = (k0_pay28 h w) (ix2 ⟨1 * 64 + s, by omega⟩ ⟨0 * 128 + l, by omega⟩) := by
  pointwise [k0_pay30]

/-- Plane 0, sequence 2. -/
theorem piece_0_2 (h : FVec Ideal S512x1024 .bf16) (w : Vec Ideal S1024x1280 .bf16) (s : Fin 64) (l : Fin 128) :
    (k0_pay31 h w) (ix4 0 0 s l) = (k0_pay28 h w) (ix2 ⟨2 * 64 + s, by omega⟩ ⟨0 * 128 + l, by omega⟩) := by
  pointwise [k0_pay31]

/-- Plane 0, sequence 3. -/
theorem piece_0_3 (h : FVec Ideal S512x1024 .bf16) (w : Vec Ideal S1024x1280 .bf16) (s : Fin 64) (l : Fin 128) :
    (k0_pay32 h w) (ix4 0 0 s l) = (k0_pay28 h w) (ix2 ⟨3 * 64 + s, by omega⟩ ⟨0 * 128 + l, by omega⟩) := by
  pointwise [k0_pay32]

/-- Plane 0, sequence 4. -/
theorem piece_0_4 (h : FVec Ideal S512x1024 .bf16) (w : Vec Ideal S1024x1280 .bf16) (s : Fin 64) (l : Fin 128) :
    (k0_pay34 (k0_pay33 h w)) (ix4 0 0 s l) = (k0_pay28 h w) (ix2 ⟨4 * 64 + s, by omega⟩ ⟨0 * 128 + l, by omega⟩) := by
  pointwise [k0_pay34, k0_pay33]

/-- Plane 0, sequence 5. -/
theorem piece_0_5 (z : FVec Ideal S512x1280 .f32) (s : Fin 64) (l : Fin 128) :
    (k0_pay35 z) (ix4 0 0 s l) = (z) (ix2 ⟨5 * 64 + s, by omega⟩ ⟨0 * 128 + l, by omega⟩) := by
  pointwise [k0_pay35]

/-- Plane 0, sequence 6. -/
theorem piece_0_6 (z : FVec Ideal S512x1280 .f32) (s : Fin 64) (l : Fin 128) :
    (k0_pay36 z) (ix4 0 0 s l) = (z) (ix2 ⟨6 * 64 + s, by omega⟩ ⟨0 * 128 + l, by omega⟩) := by
  pointwise [k0_pay36]

/-- Plane 0, sequence 7. -/
theorem piece_0_7 (z : FVec Ideal S512x1280 .f32) (s : Fin 64) (l : Fin 128) :
    (k0_pay37 z) (ix4 0 0 s l) = (z) (ix2 ⟨7 * 64 + s, by omega⟩ ⟨0 * 128 + l, by omega⟩) := by
  pointwise [k0_pay37]

/-- Plane 1, sequence 0. -/
theorem piece_1_0 (z : FVec Ideal S512x1280 .f32) (s : Fin 64) (l : Fin 128) :
    (k0_pay38 z) (ix4 0 0 s l) = (z) (ix2 ⟨0 * 64 + s, by omega⟩ ⟨1 * 128 + l, by omega⟩) := by
  pointwise [k0_pay38]

/-- Plane 1, sequence 1. -/
theorem piece_1_1 (z : FVec Ideal S512x1280 .f32) (s : Fin 64) (l : Fin 128) :
    (k0_pay39 z) (ix4 0 0 s l) = (z) (ix2 ⟨1 * 64 + s, by omega⟩ ⟨1 * 128 + l, by omega⟩) := by
  pointwise [k0_pay39]

/-- Plane 1, sequence 2. -/
theorem piece_1_2 (z : FVec Ideal S512x1280 .f32) (s : Fin 64) (l : Fin 128) :
    (k0_pay40 z) (ix4 0 0 s l) = (z) (ix2 ⟨2 * 64 + s, by omega⟩ ⟨1 * 128 + l, by omega⟩) := by
  pointwise [k0_pay40]

/-- Plane 1, sequence 3. -/
theorem piece_1_3 (z : FVec Ideal S512x1280 .f32) (s : Fin 64) (l : Fin 128) :
    (k0_pay42 (k0_pay41 z)) (ix4 0 0 s l) = (z) (ix2 ⟨3 * 64 + s, by omega⟩ ⟨1 * 128 + l, by omega⟩) := by
  pointwise [k0_pay42, k0_pay41]

/-- Plane 1, sequence 4. -/
theorem piece_1_4 (z : FVec Ideal S512x1280 .f32) (s : Fin 64) (l : Fin 128) :
    (k0_pay43 z) (ix4 0 0 s l) = (z) (ix2 ⟨4 * 64 + s, by omega⟩ ⟨1 * 128 + l, by omega⟩) := by
  pointwise [k0_pay43]

/-- Plane 1, sequence 5. -/
theorem piece_1_5 (z : FVec Ideal S512x1280 .f32) (s : Fin 64) (l : Fin 128) :
    (k0_pay44 z) (ix4 0 0 s l) = (z) (ix2 ⟨5 * 64 + s, by omega⟩ ⟨1 * 128 + l, by omega⟩) := by
  pointwise [k0_pay44]

/-- Plane 1, sequence 6. -/
theorem piece_1_6 (z : FVec Ideal S512x1280 .f32) (s : Fin 64) (l : Fin 128) :
    (k0_pay45 z) (ix4 0 0 s l) = (z) (ix2 ⟨6 * 64 + s, by omega⟩ ⟨1 * 128 + l, by omega⟩) := by
  pointwise [k0_pay45]

/-- Plane 1, sequence 7. -/
theorem piece_1_7 (z : FVec Ideal S512x1280 .f32) (s : Fin 64) (l : Fin 128) :
    (k0_pay46 z) (ix4 0 0 s l) = (z) (ix2 ⟨7 * 64 + s, by omega⟩ ⟨1 * 128 + l, by omega⟩) := by
  pointwise [k0_pay46]

/-- Plane 2, sequence 0. -/
theorem piece_2_0 (z : FVec Ideal S512x1280 .f32) (s : Fin 64) (l : Fin 128) :
    (k0_pay47 z) (ix4 0 0 s l) = (z) (ix2 ⟨0 * 64 + s, by omega⟩ ⟨2 * 128 + l, by omega⟩) := by
  pointwise [k0_pay47]

/-- Plane 2, sequence 1. -/
theorem piece_2_1 (z : FVec Ideal S512x1280 .f32) (s : Fin 64) (l : Fin 128) :
    (k0_pay48 z) (ix4 0 0 s l) = (z) (ix2 ⟨1 * 64 + s, by omega⟩ ⟨2 * 128 + l, by omega⟩) := by
  pointwise [k0_pay48]

/-- Plane 2, sequence 2. -/
theorem piece_2_2 (z : FVec Ideal S512x1280 .f32) (s : Fin 64) (l : Fin 128) :
    (k0_pay50 (k0_pay49 z)) (ix4 0 0 s l) = (z) (ix2 ⟨2 * 64 + s, by omega⟩ ⟨2 * 128 + l, by omega⟩) := by
  pointwise [k0_pay50, k0_pay49]

/-- Plane 2, sequence 3. -/
theorem piece_2_3 (z : FVec Ideal S512x1280 .f32) (s : Fin 64) (l : Fin 128) :
    (k0_pay51 z) (ix4 0 0 s l) = (z) (ix2 ⟨3 * 64 + s, by omega⟩ ⟨2 * 128 + l, by omega⟩) := by
  pointwise [k0_pay51]

/-- Plane 2, sequence 4. -/
theorem piece_2_4 (z : FVec Ideal S512x1280 .f32) (s : Fin 64) (l : Fin 128) :
    (k0_pay52 z) (ix4 0 0 s l) = (z) (ix2 ⟨4 * 64 + s, by omega⟩ ⟨2 * 128 + l, by omega⟩) := by
  pointwise [k0_pay52]

/-- Plane 2, sequence 5. -/
theorem piece_2_5 (z : FVec Ideal S512x1280 .f32) (s : Fin 64) (l : Fin 128) :
    (k0_pay53 z) (ix4 0 0 s l) = (z) (ix2 ⟨5 * 64 + s, by omega⟩ ⟨2 * 128 + l, by omega⟩) := by
  pointwise [k0_pay53]

/-- Plane 2, sequence 6. -/
theorem piece_2_6 (z : FVec Ideal S512x1280 .f32) (s : Fin 64) (l : Fin 128) :
    (k0_pay54 z) (ix4 0 0 s l) = (z) (ix2 ⟨6 * 64 + s, by omega⟩ ⟨2 * 128 + l, by omega⟩) := by
  pointwise [k0_pay54]

/-- Plane 2, sequence 7. -/
theorem piece_2_7 (z : FVec Ideal S512x1280 .f32) (s : Fin 64) (l : Fin 128) :
    (k0_pay55 z) (ix4 0 0 s l) = (z) (ix2 ⟨7 * 64 + s, by omega⟩ ⟨2 * 128 + l, by omega⟩) := by
  pointwise [k0_pay55]

/-- Plane 3, sequence 0. -/
theorem piece_3_0 (z : FVec Ideal S512x1280 .f32) (s : Fin 64) (l : Fin 128) :
    (k0_pay57 (k0_pay56 z)) (ix4 0 0 s l) = (z) (ix2 ⟨0 * 64 + s, by omega⟩ ⟨3 * 128 + l, by omega⟩) := by
  pointwise [k0_pay57, k0_pay56]

/-- Plane 3, sequence 1. -/
theorem piece_3_1 (z : FVec Ideal S512x1280 .f32) (s : Fin 64) (l : Fin 128) :
    (k0_pay58 z) (ix4 0 0 s l) = (z) (ix2 ⟨1 * 64 + s, by omega⟩ ⟨3 * 128 + l, by omega⟩) := by
  pointwise [k0_pay58]

/-- Plane 3, sequence 2. -/
theorem piece_3_2 (z : FVec Ideal S512x1280 .f32) (s : Fin 64) (l : Fin 128) :
    (k0_pay59 z) (ix4 0 0 s l) = (z) (ix2 ⟨2 * 64 + s, by omega⟩ ⟨3 * 128 + l, by omega⟩) := by
  pointwise [k0_pay59]

/-- Plane 3, sequence 3. -/
theorem piece_3_3 (z : FVec Ideal S512x1280 .f32) (s : Fin 64) (l : Fin 128) :
    (k0_pay60 z) (ix4 0 0 s l) = (z) (ix2 ⟨3 * 64 + s, by omega⟩ ⟨3 * 128 + l, by omega⟩) := by
  pointwise [k0_pay60]

/-- Plane 3, sequence 4. -/
theorem piece_3_4 (z : FVec Ideal S512x1280 .f32) (s : Fin 64) (l : Fin 128) :
    (k0_pay61 z) (ix4 0 0 s l) = (z) (ix2 ⟨4 * 64 + s, by omega⟩ ⟨3 * 128 + l, by omega⟩) := by
  pointwise [k0_pay61]

/-- Plane 3, sequence 5. -/
theorem piece_3_5 (z : FVec Ideal S512x1280 .f32) (s : Fin 64) (l : Fin 128) :
    (k0_pay62 z) (ix4 0 0 s l) = (z) (ix2 ⟨5 * 64 + s, by omega⟩ ⟨3 * 128 + l, by omega⟩) := by
  pointwise [k0_pay62]

/-- Plane 3, sequence 6. -/
theorem piece_3_6 (z : FVec Ideal S512x1280 .f32) (s : Fin 64) (l : Fin 128) :
    (k0_pay63 z) (ix4 0 0 s l) = (z) (ix2 ⟨6 * 64 + s, by omega⟩ ⟨3 * 128 + l, by omega⟩) := by
  pointwise [k0_pay63]

/-- Plane 3, sequence 7. -/
theorem piece_3_7 (z : FVec Ideal S512x1280 .f32) (s : Fin 64) (l : Fin 128) :
    (k0_pay65 (k0_pay64 z)) (ix4 0 0 s l) = (z) (ix2 ⟨7 * 64 + s, by omega⟩ ⟨3 * 128 + l, by omega⟩) := by
  pointwise [k0_pay65, k0_pay64]

/-- Plane 4, sequence 0. -/
theorem piece_4_0 (z : FVec Ideal S512x1280 .f32) (s : Fin 64) (l : Fin 128) :
    (k0_pay66 z) (ix4 0 0 s l) = (z) (ix2 ⟨0 * 64 + s, by omega⟩ ⟨4 * 128 + l, by omega⟩) := by
  pointwise [k0_pay66]

/-- Plane 4, sequence 1. -/
theorem piece_4_1 (z : FVec Ideal S512x1280 .f32) (s : Fin 64) (l : Fin 128) :
    (k0_pay67 z) (ix4 0 0 s l) = (z) (ix2 ⟨1 * 64 + s, by omega⟩ ⟨4 * 128 + l, by omega⟩) := by
  pointwise [k0_pay67]

/-- Plane 4, sequence 2. -/
theorem piece_4_2 (z : FVec Ideal S512x1280 .f32) (s : Fin 64) (l : Fin 128) :
    (k0_pay68 z) (ix4 0 0 s l) = (z) (ix2 ⟨2 * 64 + s, by omega⟩ ⟨4 * 128 + l, by omega⟩) := by
  pointwise [k0_pay68]

/-- Plane 4, sequence 3. -/
theorem piece_4_3 (z : FVec Ideal S512x1280 .f32) (s : Fin 64) (l : Fin 128) :
    (k0_pay69 z) (ix4 0 0 s l) = (z) (ix2 ⟨3 * 64 + s, by omega⟩ ⟨4 * 128 + l, by omega⟩) := by
  pointwise [k0_pay69]

/-- Plane 4, sequence 4. -/
theorem piece_4_4 (z : FVec Ideal S512x1280 .f32) (s : Fin 64) (l : Fin 128) :
    (k0_pay70 z) (ix4 0 0 s l) = (z) (ix2 ⟨4 * 64 + s, by omega⟩ ⟨4 * 128 + l, by omega⟩) := by
  pointwise [k0_pay70]

/-- Plane 4, sequence 5. -/
theorem piece_4_5 (z : FVec Ideal S512x1280 .f32) (s : Fin 64) (l : Fin 128) :
    (k0_pay71 z) (ix4 0 0 s l) = (z) (ix2 ⟨5 * 64 + s, by omega⟩ ⟨4 * 128 + l, by omega⟩) := by
  pointwise [k0_pay71]

/-- Plane 4, sequence 6. -/
theorem piece_4_6 (z : FVec Ideal S512x1280 .f32) (s : Fin 64) (l : Fin 128) :
    (k0_pay73 (k0_pay72 z)) (ix4 0 0 s l) = (z) (ix2 ⟨6 * 64 + s, by omega⟩ ⟨4 * 128 + l, by omega⟩) := by
  pointwise [k0_pay73, k0_pay72]

/-- Plane 4, sequence 7. -/
theorem piece_4_7 (z : FVec Ideal S512x1280 .f32) (s : Fin 64) (l : Fin 128) :
    (k0_pay74 z) (ix4 0 0 s l) = (z) (ix2 ⟨7 * 64 + s, by omega⟩ ⟨4 * 128 + l, by omega⟩) := by
  pointwise [k0_pay74]

/-- Plane 5, sequence 0. -/
theorem piece_5_0 (z : FVec Ideal S512x1280 .f32) (s : Fin 64) (l : Fin 128) :
    (k0_pay75 z) (ix4 0 0 s l) = (z) (ix2 ⟨0 * 64 + s, by omega⟩ ⟨5 * 128 + l, by omega⟩) := by
  pointwise [k0_pay75]

/-- Plane 5, sequence 1. -/
theorem piece_5_1 (z : FVec Ideal S512x1280 .f32) (s : Fin 64) (l : Fin 128) :
    (k0_pay76 z) (ix4 0 0 s l) = (z) (ix2 ⟨1 * 64 + s, by omega⟩ ⟨5 * 128 + l, by omega⟩) := by
  pointwise [k0_pay76]

/-- Plane 5, sequence 2. -/
theorem piece_5_2 (z : FVec Ideal S512x1280 .f32) (s : Fin 64) (l : Fin 128) :
    (k0_pay77 z) (ix4 0 0 s l) = (z) (ix2 ⟨2 * 64 + s, by omega⟩ ⟨5 * 128 + l, by omega⟩) := by
  pointwise [k0_pay77]

/-- Plane 5, sequence 3. -/
theorem piece_5_3 (z : FVec Ideal S512x1280 .f32) (s : Fin 64) (l : Fin 128) :
    (k0_pay78 z) (ix4 0 0 s l) = (z) (ix2 ⟨3 * 64 + s, by omega⟩ ⟨5 * 128 + l, by omega⟩) := by
  pointwise [k0_pay78]

/-- Plane 5, sequence 4. -/
theorem piece_5_4 (z : FVec Ideal S512x1280 .f32) (s : Fin 64) (l : Fin 128) :
    (k0_pay80 (k0_pay79 z)) (ix4 0 0 s l) = (z) (ix2 ⟨4 * 64 + s, by omega⟩ ⟨5 * 128 + l, by omega⟩) := by
  pointwise [k0_pay80, k0_pay79]

/-- Plane 5, sequence 5. -/
theorem piece_5_5 (z : FVec Ideal S512x1280 .f32) (s : Fin 64) (l : Fin 128) :
    (k0_pay81 z) (ix4 0 0 s l) = (z) (ix2 ⟨5 * 64 + s, by omega⟩ ⟨5 * 128 + l, by omega⟩) := by
  pointwise [k0_pay81]

/-- Plane 5, sequence 6. -/
theorem piece_5_6 (z : FVec Ideal S512x1280 .f32) (s : Fin 64) (l : Fin 128) :
    (k0_pay82 z) (ix4 0 0 s l) = (z) (ix2 ⟨6 * 64 + s, by omega⟩ ⟨5 * 128 + l, by omega⟩) := by
  pointwise [k0_pay82]

/-- Plane 5, sequence 7. -/
theorem piece_5_7 (z : FVec Ideal S512x1280 .f32) (s : Fin 64) (l : Fin 128) :
    (k0_pay83 z) (ix4 0 0 s l) = (z) (ix2 ⟨7 * 64 + s, by omega⟩ ⟨5 * 128 + l, by omega⟩) := by
  pointwise [k0_pay83]

/-- Plane 6, sequence 0. -/
theorem piece_6_0 (z : FVec Ideal S512x1280 .f32) (s : Fin 64) (l : Fin 128) :
    (k0_pay84 z) (ix4 0 0 s l) = (z) (ix2 ⟨0 * 64 + s, by omega⟩ ⟨6 * 128 + l, by omega⟩) := by
  pointwise [k0_pay84]

/-- Plane 6, sequence 1. -/
theorem piece_6_1 (z : FVec Ideal S512x1280 .f32) (s : Fin 64) (l : Fin 128) :
    (k0_pay85 z) (ix4 0 0 s l) = (z) (ix2 ⟨1 * 64 + s, by omega⟩ ⟨6 * 128 + l, by omega⟩) := by
  pointwise [k0_pay85]

/-- Plane 6, sequence 2. -/
theorem piece_6_2 (z : FVec Ideal S512x1280 .f32) (s : Fin 64) (l : Fin 128) :
    (k0_pay86 z) (ix4 0 0 s l) = (z) (ix2 ⟨2 * 64 + s, by omega⟩ ⟨6 * 128 + l, by omega⟩) := by
  pointwise [k0_pay86]

/-- Plane 6, sequence 3. -/
theorem piece_6_3 (z : FVec Ideal S512x1280 .f32) (s : Fin 64) (l : Fin 128) :
    (k0_pay88 (k0_pay87 z)) (ix4 0 0 s l) = (z) (ix2 ⟨3 * 64 + s, by omega⟩ ⟨6 * 128 + l, by omega⟩) := by
  pointwise [k0_pay88, k0_pay87]

/-- Plane 6, sequence 4. -/
theorem piece_6_4 (z : FVec Ideal S512x1280 .f32) (s : Fin 64) (l : Fin 128) :
    (k0_pay89 z) (ix4 0 0 s l) = (z) (ix2 ⟨4 * 64 + s, by omega⟩ ⟨6 * 128 + l, by omega⟩) := by
  pointwise [k0_pay89]

/-- Plane 6, sequence 5. -/
theorem piece_6_5 (z : FVec Ideal S512x1280 .f32) (s : Fin 64) (l : Fin 128) :
    (k0_pay90 z) (ix4 0 0 s l) = (z) (ix2 ⟨5 * 64 + s, by omega⟩ ⟨6 * 128 + l, by omega⟩) := by
  pointwise [k0_pay90]

/-- Plane 6, sequence 6. -/
theorem piece_6_6 (z : FVec Ideal S512x1280 .f32) (s : Fin 64) (l : Fin 128) :
    (k0_pay91 z) (ix4 0 0 s l) = (z) (ix2 ⟨6 * 64 + s, by omega⟩ ⟨6 * 128 + l, by omega⟩) := by
  pointwise [k0_pay91]

/-- Plane 6, sequence 7. -/
theorem piece_6_7 (z : FVec Ideal S512x1280 .f32) (s : Fin 64) (l : Fin 128) :
    (k0_pay92 z) (ix4 0 0 s l) = (z) (ix2 ⟨7 * 64 + s, by omega⟩ ⟨6 * 128 + l, by omega⟩) := by
  pointwise [k0_pay92]

/-- Plane 7, sequence 0. -/
theorem piece_7_0 (z : FVec Ideal S512x1280 .f32) (s : Fin 64) (l : Fin 128) :
    (k0_pay93 z) (ix4 0 0 s l) = (z) (ix2 ⟨0 * 64 + s, by omega⟩ ⟨7 * 128 + l, by omega⟩) := by
  pointwise [k0_pay93]

/-- Plane 7, sequence 1. -/
theorem piece_7_1 (z : FVec Ideal S512x1280 .f32) (s : Fin 64) (l : Fin 128) :
    (k0_pay94 z) (ix4 0 0 s l) = (z) (ix2 ⟨1 * 64 + s, by omega⟩ ⟨7 * 128 + l, by omega⟩) := by
  pointwise [k0_pay94]

/-- Plane 7, sequence 2. -/
theorem piece_7_2 (z : FVec Ideal S512x1280 .f32) (s : Fin 64) (l : Fin 128) :
    (k0_pay96 (k0_pay95 z)) (ix4 0 0 s l) = (z) (ix2 ⟨2 * 64 + s, by omega⟩ ⟨7 * 128 + l, by omega⟩) := by
  pointwise [k0_pay96, k0_pay95]

/-- Plane 7, sequence 3. -/
theorem piece_7_3 (z : FVec Ideal S512x1280 .f32) (s : Fin 64) (l : Fin 128) :
    (k0_pay97 z) (ix4 0 0 s l) = (z) (ix2 ⟨3 * 64 + s, by omega⟩ ⟨7 * 128 + l, by omega⟩) := by
  pointwise [k0_pay97]

/-- Plane 7, sequence 4. -/
theorem piece_7_4 (z : FVec Ideal S512x1280 .f32) (s : Fin 64) (l : Fin 128) :
    (k0_pay98 z) (ix4 0 0 s l) = (z) (ix2 ⟨4 * 64 + s, by omega⟩ ⟨7 * 128 + l, by omega⟩) := by
  pointwise [k0_pay98]

/-- Plane 7, sequence 5. -/
theorem piece_7_5 (z : FVec Ideal S512x1280 .f32) (s : Fin 64) (l : Fin 128) :
    (k0_pay99 z) (ix4 0 0 s l) = (z) (ix2 ⟨5 * 64 + s, by omega⟩ ⟨7 * 128 + l, by omega⟩) := by
  pointwise [k0_pay99]

/-- Plane 7, sequence 6. -/
theorem piece_7_6 (z : FVec Ideal S512x1280 .f32) (s : Fin 64) (l : Fin 128) :
    (k0_pay100 z) (ix4 0 0 s l) = (z) (ix2 ⟨6 * 64 + s, by omega⟩ ⟨7 * 128 + l, by omega⟩) := by
  pointwise [k0_pay100]

/-- Plane 7, sequence 7. -/
theorem piece_7_7 (z : FVec Ideal S512x1280 .f32) (s : Fin 64) (l : Fin 128) :
    (k0_pay101 z) (ix4 0 0 s l) = (z) (ix2 ⟨7 * 64 + s, by omega⟩ ⟨7 * 128 + l, by omega⟩) := by
  pointwise [k0_pay101]

/-- Plane 8, sequence 0. -/
theorem piece_8_0 (z : FVec Ideal S512x1280 .f32) (s : Fin 64) (l : Fin 128) :
    (k0_pay103 (k0_pay102 z)) (ix4 0 0 s l) = (z) (ix2 ⟨0 * 64 + s, by omega⟩ ⟨8 * 128 + l, by omega⟩) := by
  pointwise [k0_pay103, k0_pay102]

/-- Plane 8, sequence 1. -/
theorem piece_8_1 (z : FVec Ideal S512x1280 .f32) (s : Fin 64) (l : Fin 128) :
    (k0_pay104 z) (ix4 0 0 s l) = (z) (ix2 ⟨1 * 64 + s, by omega⟩ ⟨8 * 128 + l, by omega⟩) := by
  pointwise [k0_pay104]

/-- Plane 8, sequence 2. -/
theorem piece_8_2 (z : FVec Ideal S512x1280 .f32) (s : Fin 64) (l : Fin 128) :
    (k0_pay105 z) (ix4 0 0 s l) = (z) (ix2 ⟨2 * 64 + s, by omega⟩ ⟨8 * 128 + l, by omega⟩) := by
  pointwise [k0_pay105]

/-- Plane 8, sequence 3. -/
theorem piece_8_3 (z : FVec Ideal S512x1280 .f32) (s : Fin 64) (l : Fin 128) :
    (k0_pay106 z) (ix4 0 0 s l) = (z) (ix2 ⟨3 * 64 + s, by omega⟩ ⟨8 * 128 + l, by omega⟩) := by
  pointwise [k0_pay106]

/-- Plane 8, sequence 4. -/
theorem piece_8_4 (z : FVec Ideal S512x1280 .f32) (s : Fin 64) (l : Fin 128) :
    (k0_pay107 z) (ix4 0 0 s l) = (z) (ix2 ⟨4 * 64 + s, by omega⟩ ⟨8 * 128 + l, by omega⟩) := by
  pointwise [k0_pay107]

/-- Plane 8, sequence 5. -/
theorem piece_8_5 (z : FVec Ideal S512x1280 .f32) (s : Fin 64) (l : Fin 128) :
    (k0_pay108 z) (ix4 0 0 s l) = (z) (ix2 ⟨5 * 64 + s, by omega⟩ ⟨8 * 128 + l, by omega⟩) := by
  pointwise [k0_pay108]

/-- Plane 8, sequence 6. -/
theorem piece_8_6 (z : FVec Ideal S512x1280 .f32) (s : Fin 64) (l : Fin 128) :
    (k0_pay109 z) (ix4 0 0 s l) = (z) (ix2 ⟨6 * 64 + s, by omega⟩ ⟨8 * 128 + l, by omega⟩) := by
  pointwise [k0_pay109]

/-- Plane 8, sequence 7. -/
theorem piece_8_7 (z : FVec Ideal S512x1280 .f32) (s : Fin 64) (l : Fin 128) :
    (k0_pay111 (k0_pay110 z)) (ix4 0 0 s l) = (z) (ix2 ⟨7 * 64 + s, by omega⟩ ⟨8 * 128 + l, by omega⟩) := by
  pointwise [k0_pay111, k0_pay110]

/-- Plane 9, sequence 0. -/
theorem piece_9_0 (z : FVec Ideal S512x1280 .f32) (s : Fin 64) (l : Fin 128) :
    (k0_pay112 z) (ix4 0 0 s l) = (z) (ix2 ⟨0 * 64 + s, by omega⟩ ⟨9 * 128 + l, by omega⟩) := by
  pointwise [k0_pay112]

/-- Plane 9, sequence 1. -/
theorem piece_9_1 (z : FVec Ideal S512x1280 .f32) (s : Fin 64) (l : Fin 128) :
    (k0_pay113 z) (ix4 0 0 s l) = (z) (ix2 ⟨1 * 64 + s, by omega⟩ ⟨9 * 128 + l, by omega⟩) := by
  pointwise [k0_pay113]

/-- Plane 9, sequence 2. -/
theorem piece_9_2 (z : FVec Ideal S512x1280 .f32) (s : Fin 64) (l : Fin 128) :
    (k0_pay114 z) (ix4 0 0 s l) = (z) (ix2 ⟨2 * 64 + s, by omega⟩ ⟨9 * 128 + l, by omega⟩) := by
  pointwise [k0_pay114]

/-- Plane 9, sequence 3. -/
theorem piece_9_3 (z : FVec Ideal S512x1280 .f32) (s : Fin 64) (l : Fin 128) :
    (k0_pay115 z) (ix4 0 0 s l) = (z) (ix2 ⟨3 * 64 + s, by omega⟩ ⟨9 * 128 + l, by omega⟩) := by
  pointwise [k0_pay115]

/-- Plane 9, sequence 4. -/
theorem piece_9_4 (z : FVec Ideal S512x1280 .f32) (s : Fin 64) (l : Fin 128) :
    (k0_pay116 z) (ix4 0 0 s l) = (z) (ix2 ⟨4 * 64 + s, by omega⟩ ⟨9 * 128 + l, by omega⟩) := by
  pointwise [k0_pay116]

/-- Plane 9, sequence 5. -/
theorem piece_9_5 (z : FVec Ideal S512x1280 .f32) (s : Fin 64) (l : Fin 128) :
    (k0_pay117 z) (ix4 0 0 s l) = (z) (ix2 ⟨5 * 64 + s, by omega⟩ ⟨9 * 128 + l, by omega⟩) := by
  pointwise [k0_pay117]

/-- Plane 9, sequence 6. -/
theorem piece_9_6 (z : FVec Ideal S512x1280 .f32) (s : Fin 64) (l : Fin 128) :
    (k0_pay119 (k0_pay118 z)) (ix4 0 0 s l) = (z) (ix2 ⟨6 * 64 + s, by omega⟩ ⟨9 * 128 + l, by omega⟩) := by
  pointwise [k0_pay119, k0_pay118]

/-- Plane 9, sequence 7. -/
theorem piece_9_7 (z : FVec Ideal S512x1280 .f32) (s : Fin 64) (l : Fin 128) :
    (k0_pay120 z) (ix4 0 0 s l) = (z) (ix2 ⟨7 * 64 + s, by omega⟩ ⟨9 * 128 + l, by omega⟩) := by
  pointwise [k0_pay120]

end Cert.InProjIdeal.Row

end
-- ==== Proof.InProjBlocks.lean ====
module

public import proofs.«01_k».proof.Proof.InProjTables
public import proofs.«01_k».proof.Proof.InProjPieces

@[expose] public section

set_option maxRecDepth 16384

noncomputable section

open Idealize.ShloMosaic Idealize.ShloMosaic.TcCoe Idealize.SL.Sem
open Idealize.ShloMosaic.Pipeline (Dat)

namespace Cert.InProjIdeal.Row

open Cert.InProjIdeal Cert.InProjIdeal.Gen Cert.InProjIdeal.Hand

variable (m : (ℓ : Loc nD τ sig) → Buf (Elt Ideal) ℓ)

/-- The windows' block indices, at every grid point: eight sequences and 64 positions. -/
theorem idx : ∀ t : Fin cfg0.N, win0_0.index t = ![t.val / 64, t.val % 64, 0] ∧ win0_1.index t = ![0, 0] ∧ win0_2.index t = ![0, 0]
    ∧ win0_3.index t = ![t.val % 64, 0] ∧ win0_4.index t = ![t.val % 64, 0] ∧ win0_5.index t = ![t.val % 64, 0]
    ∧ win0_6.index t = ![t.val / 64, t.val % 64, 0] ∧ win0_7.index t = ![t.val / 64, t.val % 64, 0]
    ∧ win0_8.index t = ![t.val / 64, t.val % 64, 0] ∧ win0_9.index t = ![t.val / 64, 0, t.val % 64, 0]
    ∧ win0_10.index t = ![t.val / 64, t.val % 64, 0] ∧ win0_11.index t = ![t.val / 64, t.val % 64, 0]
    ∧ win0_12.index t = ![t.val / 64, t.val % 64, 0] :=
  (by decide +kernel : ∀ t : Fin grid0.N, _)

/-- The arguments from memory. -/
abbrev args (c : Dev nD) : InProjRow.Args :=
  ⟨fun b s k => m ((c.tc : Thread nD τ).loc main_arg0) (ix3 b s k), fun k => m ((c.tc : Thread nD τ).loc main_arg1) (ix1 k),
    fun a b => m ((c.tc : Thread nD τ).loc main_arg2) (ix2 a b)⟩

/-- The sequence that a block's row `b` holds at point `t`. -/
def seqOf (t : Fin cfg0.N) (b : Fin 8) : Fin 16 := ⟨t.val / 64 * 8 + b.val, by have : t.val < 128 := t.isLt; omega⟩

/-- The position that a block's row `p` holds at point `t`. -/
def posOf (t : Fin cfg0.N) (p : Fin 64) : Fin 4096 := ⟨t.val % 64 * 64 + p.val, by omega⟩

/-- The residual stream in its block. -/
theorem b0 (c : Dev nD) (t : Fin cfg0.N) (b : Fin 8) (p : Fin 64) (k : Fin 1024) :
    iblk m c 0 t (ix3 b p k) = m ((c.tc : Thread nD τ).loc main_arg0) (ix3 (seqOf t b) (posOf t p) k) := by
  refine Eq.trans (b := V m c main_arg0 (ix3 (seqOf t b) (posOf t p) k)) ?_ (by entry_read; rfl)
  unfold seqOf posOf
  blk_point [iblk, idx t]

/-- The norm's weight in its block. -/
theorem b1 (c : Dev nD) (t : Fin cfg0.N) (k : Fin 1024) :
    iblk m c 1 t (ix2 0 k) = m ((c.tc : Thread nD τ).loc main_arg1) (ix1 k) := by
  refine Eq.trans (b := V m c main_v0 (ix2 0 k)) ?_ (V0 m c k)
  blk_point [iblk, idx t]

/-- The projection in its block. -/
theorem b2 (c : Dev nD) (t : Fin cfg0.N) (i : Fin 1024) (j : Fin 6144) :
    iblk m c 2 t (ix2 i j) = m ((c.tc : Thread nD τ).loc main_arg2) (ix2 i j) := by
  refine Eq.trans (b := V m c main_v1 (ix2 i j)) ?_ (V1 m c i j)
  blk_point [iblk, idx t]

/-- The cosines in their block. -/
theorem b3 (c : Dev nD) (t : Fin cfg0.N) (p : Fin 64) (l : Fin 128) : iblk m c 3 t (ix2 p l) = cosines (ix2 (posOf t p) l) := by
  refine Eq.trans (b := V m c main_v20 (ix2 (posOf t p) l)) ?_ (congrFun (V20 m c) _)
  unfold posOf
  blk_point [iblk, idx t]

/-- The sines in their block. -/
theorem b4 (c : Dev nD) (t : Fin cfg0.N) (p : Fin 64) (l : Fin 128) : iblk m c 4 t (ix2 p l) = sines (ix2 (posOf t p) l) := by
  refine Eq.trans (b := V m c main_v21 (ix2 (posOf t p) l)) ?_ (congrFun (V21 m c) _)
  unfold posOf
  blk_point [iblk, idx t]

/-- The negated sines in their block. -/
theorem b5 (c : Dev nD) (t : Fin cfg0.N) (p : Fin 64) (l : Fin 128) : iblk m c 5 t (ix2 p l) = negSines (ix2 (posOf t p) l) := by
  refine Eq.trans (b := V m c main_v23 (ix2 (posOf t p) l)) ?_ (congrFun (V23 m c) _)
  unfold posOf
  blk_point [iblk, idx t]

/-- A range of columns of the projection, read out of its block. -/
theorem cols (x : Vec Ideal S1024x6144 .bf16) (o n : ℕ) (h : ∀ a, ![0, o] a + ![1024, n] a ≤ S1024x6144.size a) (i : Fin 1024) (j : Fin n)
    (hj : o + j.val < 6144) :
    View.ld x (Rect.unit ![0, o] ![1024, n] h) (ix2 i j) = x (ix2 i ⟨o + j.val, hj⟩) := by
  show x _ = x _
  congr 1
  funext a
  apply Fin.ext
  match a with
  | ⟨0, _⟩ => show 0 + 1 * i.val = i.val; omega
  | ⟨1, _⟩ => show o + 1 * j.val = o + j.val; omega

/-- A block's row against a range of columns is the projection of its token. -/
theorem dot_eq (c : Dev nD) (t : Fin cfg0.N) (b : Fin 8) (p : Fin 64) (o n : ℕ) (h : ∀ a, ![0, o] a + ![1024, n] a ≤ S1024x6144.size a)
    (j : Fin n) (hj : o + j.val < 6144) :
    FfnRow.dot (FfnRow.norm (fun k => iblk m c 0 t (ix3 b p k)) (fun k => iblk m c 1 t (ix2 0 k)))
      (fun i (j : Fin n) => View.ld (iblk m c 2 t) (Rect.unit ![0, o] ![1024, n] h) (ix2 i j)) j
      = InProjRow.z (args m c) (seqOf t b) (posOf t p) ⟨o + j.val, hj⟩ := by
  unfold FfnRow.dot InProjRow.z FfnRow.dot
  refine Finset.sum_congr rfl fun i _ => congrArg₂ (· * ·) ?_ ((cols _ o n h i j hj).trans (b2 m c t i _))
  exact congrFun (congrArg₂ FfnRow.norm (funext fun k => b0 m c t b p k) (funext fun k => b1 m c t k)) i

/-- A head of a block against the block's tables is the rotary embedding at the token's position. -/
theorem turn_blk (c : Dev nD) (t : Fin cfg0.N) (p : Fin 64) (u v : Fin 128 → EReal) (e : u = v) (l : Fin 128) :
    turn (fun l => iblk m c 3 t (ix2 p l)) (fun l => iblk m c 4 t (ix2 p l)) (fun l => iblk m c 5 t (ix2 p l)) u l
      = InProjRow.rope (posOf t p) v l := by
  rw [e, ← turn_rope]
  exact congrFun (congrFun (congr (congrArg₂ turn (funext fun l => b3 m c t p l) (funext fun l => b4 m c t p l))
    (funext fun l => b5 m c t p l)) v) l

/-- Where an index of output 6's block lies in its array. -/
theorem emb6 (t : Fin cfg0.N) (b : Fin 8) (p : Fin 64) (j : Fin 1024) :
    ((cfg0.win 6).blk t).view.emb (ix3 b p j) = ix3 (seqOf t b) (posOf t p) j := by
  unfold seqOf posOf
  blk_ext [idx t]

/-- Where an index of output 7's block lies in its array. -/
theorem emb7 (t : Fin cfg0.N) (b : Fin 8) (p : Fin 64) (j : Fin 256) :
    ((cfg0.win 7).blk t).view.emb (ix3 b p j) = ix3 (seqOf t b) (posOf t p) j := by
  unfold seqOf posOf
  blk_ext [idx t]

/-- Where an index of output 8's block lies in its array. -/
theorem emb8 (t : Fin cfg0.N) (b : Fin 8) (p : Fin 64) (j : Fin 256) :
    ((cfg0.win 8).blk t).view.emb (ix3 b p j) = ix3 (seqOf t b) (posOf t p) j := by
  unfold seqOf posOf
  blk_ext [idx t]

/-- Where an index of output 10's block lies in its array. -/
theorem emb10 (t : Fin cfg0.N) (b : Fin 8) (p : Fin 64) (j : Fin 1280) :
    ((cfg0.win 10).blk t).view.emb (ix3 b p j) = ix3 (seqOf t b) (posOf t p) j := by
  unfold seqOf posOf
  blk_ext [idx t]

/-- Where an index of output 11's block lies in its array. -/
theorem emb11 (t : Fin cfg0.N) (b : Fin 8) (p : Fin 64) (j : Fin 1024) :
    ((cfg0.win 11).blk t).view.emb (ix3 b p j) = ix3 (seqOf t b) (posOf t p) j := by
  unfold seqOf posOf
  blk_ext [idx t]

/-- Where an index of output 12's block lies in its array. -/
theorem emb12 (t : Fin cfg0.N) (b : Fin 8) (p : Fin 64) (j : Fin 1024) :
    ((cfg0.win 12).blk t).view.emb (ix3 b p j) = ix3 (seqOf t b) (posOf t p) j := by
  unfold seqOf posOf
  blk_ext [idx t]

/-- Where an index of the recurrent input's block lies in its array. -/
theorem emb9 (t : Fin cfg0.N) (z : Fin 1) (n : Fin 10) (p : Fin 512) (l : Fin 128) :
    ((cfg0.win 9).blk t).view.emb (ix4 z n p l)
      = ix4 ⟨t.val / 64, by have : t.val < 128 := t.isLt; omega⟩ n ⟨t.val % 64 * 512 + p.val, by omega⟩ l := by
  blk_ext [idx t]

end Cert.InProjIdeal.Row

end
-- ==== Proof.InProjFinal.lean ====
module

public import proofs.«01_k».proof.Proof.InProjBlocks

@[expose] public section

set_option maxRecDepth 16384

noncomputable section

open Idealize.ShloMosaic Idealize.ShloMosaic.TcCoe Idealize.SL.Sem
open Idealize.ShloMosaic.Pipeline (Dat)

namespace Cert.InProjIdeal.Row

open Cert.InProjIdeal Cert.InProjIdeal.Gen Cert.InProjIdeal.Hand

variable (m : (ℓ : Loc nD τ sig) → Buf (Elt Ideal) ℓ)

/-- The values after the run. -/
theorem final8 (c : Dev nD) : (dats m 0 c).arrAt 8 (cfgs 0).N = InProjRow.W (args m c) := by
  refine (dats m 0 c).arrAt_eq_of_covers 8 _ (by decide +kernel) fun t _ y => ?_
  blk_simp
  rw [after8]
  unfold left8 runAt
  frame_out
  obtain ⟨b, p, j, rfl⟩ : ∃ (b : Fin 8) (p : Fin 64) (j : Fin 256), y = ix3 b p j := ⟨y 0, y 1, y 2, eq_ix3 y⟩
  refine Eq.trans ?_ (congrArg (InProjRow.W (args m c)) (emb8 t b p j).symm)
  exact (z27 _ _ _ b p j).trans ((dot_eq m c t b p 1280 256 _ j _))

/-- The recurrent gate after the run. -/
theorem final10 (c : Dev nD) : (dats m 0 c).arrAt 10 (cfgs 0).N = InProjRow.R (args m c) := by
  refine (dats m 0 c).arrAt_eq_of_covers 10 _ (by decide +kernel) fun t _ y => ?_
  blk_simp
  rw [after10]
  unfold left10 runAt
  frame_out
  obtain ⟨b, p, j, rfl⟩ : ∃ (b : Fin 8) (p : Fin 64) (j : Fin 1280), y = ix3 b p j := ⟨y 0, y 1, y 2, eq_ix3 y⟩
  refine Eq.trans ?_ (congrArg (InProjRow.R (args m c)) (emb10 t b p j).symm)
  exact (z121 _ _ _ b p j).trans (congrArg InProjRow.gelu (dot_eq m c t b p 2816 1280 _ j _))

/-- The attention branch's gate after the run. -/
theorem final11 (c : Dev nD) : (dats m 0 c).arrAt 11 (cfgs 0).N = InProjRow.GA (args m c) := by
  refine (dats m 0 c).arrAt_eq_of_covers 11 _ (by decide +kernel) fun t _ y => ?_
  blk_simp
  rw [after11]
  unfold left11 runAt
  frame_out
  obtain ⟨b, p, j, rfl⟩ : ∃ (b : Fin 8) (p : Fin 64) (j : Fin 1024), y = ix3 b p j := ⟨y 0, y 1, y 2, eq_ix3 y⟩
  refine Eq.trans ?_ (congrArg (InProjRow.GA (args m c)) (emb11 t b p j).symm)
  exact (z122 _ _ _ b p j).trans (congrArg InProjRow.logistic (dot_eq m c t b p 4096 1024 _ j _))

/-- The recurrent branch's gate after the run. -/
theorem final12 (c : Dev nD) : (dats m 0 c).arrAt 12 (cfgs 0).N = InProjRow.GR (args m c) := by
  refine (dats m 0 c).arrAt_eq_of_covers 12 _ (by decide +kernel) fun t _ y => ?_
  blk_simp
  rw [after12]
  unfold left12 runAt
  frame_out
  obtain ⟨b, p, j, rfl⟩ : ∃ (b : Fin 8) (p : Fin 64) (j : Fin 1024), y = ix3 b p j := ⟨y 0, y 1, y 2, eq_ix3 y⟩
  refine Eq.trans ?_ (congrArg (InProjRow.GR (args m c)) (emb12 t b p j).symm)
  exact (z2 _ _ _ b p j).trans (congrArg InProjRow.logistic (dot_eq m c t b p 5120 1024 _ j _))

end Cert.InProjIdeal.Row

end
-- ==== Proof.InProjQK.lean ====
module

public import proofs.«01_k».proof.Proof.InProjBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.Row

open Cert.InProjIdeal Cert.InProjIdeal.Gen Cert.InProjIdeal.Hand

variable (m : (ℓ : Loc nD τ sig) → Buf (Elt Ideal) ℓ)

/-- A query head's block. -/
def Qb (c : Dev nD) (t : Fin cfg0.N) : Vec Ideal S8x64x1024 .bf16 := fun y => InProjRow.Q (args m c) (ix3 (seqOf t (y 0)) (posOf t (y 1)) (y 2))

/-- A store of a query head is the head's block. -/
theorem qpiece (c : Dev nD) (t : Fin cfg0.N) (n o : ℕ) (hn : n < 8) (ho : o = n * 128) (h : ∀ a, ![0, 0, o] a + ![8, 64, 128] a ≤ S8x64x1024.size a)
    (pay : FVec Ideal S8x64x128 .bf16)
    (e : ∀ (b : Fin 8) (p : Fin 64) (l : Fin 128), pay (ix3 b p l) = InProjRow.q (args m c) (seqOf t b) (posOf t p) ⟨n, hn⟩ l)
    (x : S8x64x128.Idx) : pay x = Qb m c t ((Rect.unit ![0, 0, o] ![8, 64, 128] h : Rect S8x64x1024).emb x) := by
  subst ho
  obtain ⟨b, p, l, rfl⟩ : ∃ (b : Fin 8) (p : Fin 64) (l : Fin 128), x = ix3 b p l := ⟨x 0, x 1, x 2, eq_ix3 x⟩
  have ee : (Rect.unit ![0, 0, n * 128] ![8, 64, 128] h : Rect S8x64x1024).emb (ix3 b p l) = ix3 b p ⟨n * 128 + l.val, by omega⟩ := by
    funext a
    apply Fin.ext
    match a with
    | ⟨0, _⟩ => show 0 + 1 * b.val = b.val; omega
    | ⟨1, _⟩ => show 0 + 1 * p.val = p.val; omega
    | ⟨2, _⟩ => show n * 128 + 1 * l.val = n * 128 + l.val; omega
  rw [ee, e b p l]
  exact (InProjRow.Q_apply (args m c) (seqOf t b) (posOf t p) ⟨n, hn⟩ l).symm

/-- The queries after the run. -/
theorem final6 (c : Dev nD) : (dats m 0 c).arrAt 6 (cfgs 0).N = InProjRow.Q (args m c) := by
  refine (dats m 0 c).arrAt_eq_of_covers 6 _ (by decide +kernel) fun t _ y => ?_
  blk_simp
  rw [after6]
  unfold left6 runAt
  frame_out
  obtain ⟨b, p, j, rfl⟩ : ∃ (b : Fin 8) (p : Fin 64) (j : Fin 1024), y = ix3 b p j := ⟨y 0, y 1, y 2, eq_ix3 y⟩
  refine Eq.trans ?_ (congrArg (InProjRow.Q (args m c)) (emb6 t b p j).symm)
  refine View.canon_apply_of_pieces (Qb m c t) _ (View.PiecesOf.mem ?_) _ ?_
  · refine ⟨?_, ?_, ?_, ?_, ?_, ?_, ?_, ?_, trivial⟩
    · refine qpiece m c t 7 896 (by decide) rfl inb_S8x64x1024_S8x64x128_0_0_896 _ fun b p l => (head_7 _ _ _ _ b p l).trans (congrArg (· * _) (turn_blk m c t p _ _ (funext fun l => ?_) l))
      have el : 0 + (896 + l.val) = 7 * 128 + l.val := by omega
      exact (z7 _ _ _ b p _).trans ((dot_eq m c t b p 0 1024 _ _ (by show 0 + _ < 6144; omega)).trans (congrArg (InProjRow.z _ _ _) (Fin.ext el)))
    · refine qpiece m c t 6 768 (by decide) rfl inb_S8x64x1024_S8x64x128_0_0_768 _ fun b p l => (head_6 _ _ _ _ b p l).trans (congrArg (· * _) (turn_blk m c t p _ _ (funext fun l => ?_) l))
      have el : 0 + (768 + l.val) = 6 * 128 + l.val := by omega
      exact (z7 _ _ _ b p _).trans ((dot_eq m c t b p 0 1024 _ _ (by show 0 + _ < 6144; omega)).trans (congrArg (InProjRow.z _ _ _) (Fin.ext el)))
    · refine qpiece m c t 5 640 (by decide) rfl inb_S8x64x1024_S8x64x128_0_0_640 _ fun b p l => (head_5 _ _ _ _ b p l).trans (congrArg (· * _) (turn_blk m c t p _ _ (funext fun l => ?_) l))
      have el : 0 + (640 + l.val) = 5 * 128 + l.val := by omega
      exact (z7 _ _ _ b p _).trans ((dot_eq m c t b p 0 1024 _ _ (by show 0 + _ < 6144; omega)).trans (congrArg (InProjRow.z _ _ _) (Fin.ext el)))
    · refine qpiece m c t 4 512 (by decide) rfl inb_S8x64x1024_S8x64x128_0_0_512 _ fun b p l => (head_4 _ _ _ _ b p l).trans (congrArg (· * _) (turn_blk m c t p _ _ (funext fun l => ?_) l))
      have el : 0 + (512 + l.val) = 4 * 128 + l.val := by omega
      exact (z7 _ _ _ b p _).trans ((dot_eq m c t b p 0 1024 _ _ (by show 0 + _ < 6144; omega)).trans (congrArg (InProjRow.z _ _ _) (Fin.ext el)))
    · refine qpiece m c t 3 384 (by decide) rfl inb_S8x64x1024_S8x64x128_0_0_384 _ fun b p l => (head_3 _ _ _ _ b p l).trans (congrArg (· * _) (turn_blk m c t p _ _ (funext fun l => ?_) l))
      have el : 0 + (384 + l.val) = 3 * 128 + l.val := by omega
      exact (z7 _ _ _ b p _).trans ((dot_eq m c t b p 0 1024 _ _ (by show 0 + _ < 6144; omega)).trans (congrArg (InProjRow.z _ _ _) (Fin.ext el)))
    · refine qpiece m c t 2 256 (by decide) rfl inb_S8x64x1024_S8x64x128_0_0_256 _ fun b p l => (head_2 _ _ _ _ b p l).trans (congrArg (· * _) (turn_blk m c t p _ _ (funext fun l => ?_) l))
      have el : 0 + (256 + l.val) = 2 * 128 + l.val := by omega
      exact (z7 _ _ _ b p _).trans ((dot_eq m c t b p 0 1024 _ _ (by show 0 + _ < 6144; omega)).trans (congrArg (InProjRow.z _ _ _) (Fin.ext el)))
    · refine qpiece m c t 1 128 (by decide) rfl inb_S8x64x1024_S8x64x128_0_0_128 _ fun b p l => (head_1 _ _ _ _ b p l).trans (congrArg (· * _) (turn_blk m c t p _ _ (funext fun l => ?_) l))
      have el : 0 + (128 + l.val) = 1 * 128 + l.val := by omega
      exact (z7 _ _ _ b p _).trans ((dot_eq m c t b p 0 1024 _ _ (by show 0 + _ < 6144; omega)).trans (congrArg (InProjRow.z _ _ _) (Fin.ext el)))
    · refine qpiece m c t 0 0 (by decide) rfl inb_S8x64x1024_S8x64x128_0_0_0 _ fun b p l => (head_0 _ _ _ _ _ _ b p l).trans (congrArg (· * _) (turn_blk m c t p _ _ (funext fun l => ?_) l))
      have el : 0 + l.val = 0 * 128 + l.val := by omega
      exact (z7 _ _ _ b p _).trans ((dot_eq m c t b p 0 1024 _ _ (by show 0 + _ < 6144; omega)).trans (congrArg (InProjRow.z _ _ _) (Fin.ext el)))
  · exact View.cover_of_tiledL (s := S8x64x1024) _ S8x64x128.size (by sl_kernel_rfl) _

/-- A key head's block. -/
def Kb (c : Dev nD) (t : Fin cfg0.N) : Vec Ideal S8x64x256 .bf16 := fun y => InProjRow.K (args m c) (ix3 (seqOf t (y 0)) (posOf t (y 1)) (y 2))

/-- A store of a key head is the head's block. -/
theorem kpiece (c : Dev nD) (t : Fin cfg0.N) (n o : ℕ) (hn : n < 2) (ho : o = n * 128) (h : ∀ a, ![0, 0, o] a + ![8, 64, 128] a ≤ S8x64x256.size a)
    (pay : FVec Ideal S8x64x128 .bf16)
    (e : ∀ (b : Fin 8) (p : Fin 64) (l : Fin 128), pay (ix3 b p l) = InProjRow.k (args m c) (seqOf t b) (posOf t p) ⟨n, hn⟩ l)
    (x : S8x64x128.Idx) : pay x = Kb m c t ((Rect.unit ![0, 0, o] ![8, 64, 128] h : Rect S8x64x256).emb x) := by
  subst ho
  obtain ⟨b, p, l, rfl⟩ : ∃ (b : Fin 8) (p : Fin 64) (l : Fin 128), x = ix3 b p l := ⟨x 0, x 1, x 2, eq_ix3 x⟩
  have ee : (Rect.unit ![0, 0, n * 128] ![8, 64, 128] h : Rect S8x64x256).emb (ix3 b p l) = ix3 b p ⟨n * 128 + l.val, by omega⟩ := by
    funext a
    apply Fin.ext
    match a with
    | ⟨0, _⟩ => show 0 + 1 * b.val = b.val; omega
    | ⟨1, _⟩ => show 0 + 1 * p.val = p.val; omega
    | ⟨2, _⟩ => show n * 128 + 1 * l.val = n * 128 + l.val; omega
  rw [ee, e b p l]
  exact (InProjRow.K_apply (args m c) (seqOf t b) (posOf t p) ⟨n, hn⟩ l).symm

/-- The keys after the run. -/
theorem final7 (c : Dev nD) : (dats m 0 c).arrAt 7 (cfgs 0).N = InProjRow.K (args m c) := by
  refine (dats m 0 c).arrAt_eq_of_covers 7 _ (by decide +kernel) fun t _ y => ?_
  blk_simp
  rw [after7]
  unfold left7 runAt
  frame_out
  obtain ⟨b, p, j, rfl⟩ : ∃ (b : Fin 8) (p : Fin 64) (j : Fin 256), y = ix3 b p j := ⟨y 0, y 1, y 2, eq_ix3 y⟩
  refine Eq.trans ?_ (congrArg (InProjRow.K (args m c)) (emb7 t b p j).symm)
  refine View.canon_apply_of_pieces (Kb m c t) _ (View.PiecesOf.mem ?_) _ ?_
  · refine ⟨?_, ?_, trivial⟩
    · refine kpiece m c t 1 128 (by decide) rfl inb_S8x64x256_S8x64x128_0_0_128 _ fun b p l => (khead_1 _ _ _ _ _ b p l).trans (turn_blk m c t p _ _ (funext fun l => ?_) l)
      have el : 1024 + (128 + l.val) = 1024 + (1 * 128 + l.val) := by omega
      exact (z24 _ _ _ b p _).trans ((dot_eq m c t b p 1024 256 _ _ (by show 1024 + _ < 6144; omega)).trans (congrArg (InProjRow.z _ _ _) (Fin.ext el)))
    · refine kpiece m c t 0 0 (by decide) rfl inb_S8x64x256_S8x64x128_0_0_0 _ fun b p l => (khead_0 _ _ _ _ _ b p l).trans (turn_blk m c t p _ _ (funext fun l => ?_) l)
      have el : 1024 + l.val = 1024 + (0 * 128 + l.val) := by omega
      exact (z24 _ _ _ b p _).trans ((dot_eq m c t b p 1024 256 _ _ (by show 1024 + _ < 6144; omega)).trans (congrArg (InProjRow.z _ _ _) (Fin.ext el)))
  · exact View.cover_of_tiledL (s := S8x64x256) _ S8x64x128.size (by sl_kernel_rfl) _

end Cert.InProjIdeal.Row

end
-- ==== Proof.InProjX.lean ====
module

public import proofs.«01_k».proof.Proof.InProjBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.Row

open Cert.InProjIdeal Cert.InProjIdeal.Gen Cert.InProjIdeal.Hand

variable (m : (ℓ : Loc nD τ sig) → Buf (Elt Ideal) ℓ)

/-- The normalized rows at a point. -/
abbrev hh (c : Dev nD) (t : Fin cfg0.N) : FVec Ideal S512x1024 .bf16 := k0_pay3 (iblk m c 0 t) (iblk m c 1 t)

/-- The recurrent input's columns of the projection. -/
abbrev ww (c : Dev nD) (t : Fin cfg0.N) : Vec Ideal S1024x1280 .bf16 :=
  View.ld (iblk m c 2 t) (Rect.unit ![0, 1536] ![1024, 1280] inb_S1024x6144_S1024x1280_0_1536)

/-- The recurrent input's columns at a point: rows by sequence and position. -/
abbrev zx (c : Dev nD) (t : Fin cfg0.N) : FVec Ideal S512x1280 .f32 := k0_pay28 (hh m c t) (ww m c t)

/-- The recurrent input's block. -/
def Xb (c : Dev nD) (t : Fin cfg0.N) : Vec Ideal S1x10x512x128 .f32 := fun y =>
  InProjRow.X (args m c) (ix4 ⟨t.val / 64, by have : t.val < 128 := t.isLt; omega⟩ (y 1)
    ⟨t.val % 64 * 512 + (y 2).val, by have : (y 2).val < 512 := (y 2).isLt; omega⟩ (y 3))

/-- A store of one sequence's 64 positions and one plane of channels is the part of the block that its rows, eight apart, name. -/
theorem xpiece (c : Dev nD) (t : Fin cfg0.N) (n e : ℕ) (hn : n < 10) (he : e < 8)
    (inb : ∀ a : Fin 4, ![1, 1, 64, 128] a = 0 ∨ ![0, n, e, 0] a + ![1, 1, 8, 1] a * (![1, 1, 64, 128] a - 1) < S1x10x512x128.size a) (sp : ∀ a, 0 < ![1, 1, 8, 1] a)
    (pay : FVec Ideal S1x1x64x128 .f32)
    (h : ∀ (s : Fin 64) (l : Fin 128), pay (ix4 0 0 s l) = zx m c t (ix2 ⟨e * 64 + s, by omega⟩ ⟨n * 128 + l, by omega⟩))
    (x : S1x1x64x128.Idx) :
    pay x = Xb m c t (({ off := ![0, n, e, 0], size := ![1, 1, 64, 128], stride := ![1, 1, 8, 1], inb := inb, stride_pos := sp } : Rect S1x10x512x128).emb x) := by
  obtain ⟨u, v, s, l, rfl⟩ : ∃ (u v : Fin 1) (s : Fin 64) (l : Fin 128), x = ix4 u v s l := ⟨x 0, x 1, x 2, x 3, eq_ix4 x⟩
  obtain rfl : u = 0 := Subsingleton.elim _ _
  obtain rfl : v = 0 := Subsingleton.elim _ _
  have ee : ({ off := ![0, n, e, 0], size := ![1, 1, 64, 128], stride := ![1, 1, 8, 1], inb := inb, stride_pos := sp } : Rect S1x10x512x128).emb (ix4 0 0 s l)
      = ix4 0 ⟨n, hn⟩ ⟨s.val * 8 + e, by omega⟩ l := by
    funext a
    apply Fin.ext
    match a with
    | ⟨0, _⟩ => rfl
    | ⟨1, _⟩ => rfl
    | ⟨2, _⟩ => show e + 8 * s.val = s.val * 8 + e; omega
    | ⟨3, _⟩ => show 0 + 1 * l.val = l.val; omega
  rw [ee, h s l]
  refine (z28 _ _ _ ⟨e, he⟩ s ⟨n * 128 + l.val, by omega⟩).trans ((dot_eq m c t ⟨e, he⟩ s 1536 1280 _ _ (by show 1536 + (n * 128 + l.val) < 6144; omega)).trans ?_)
  have hN : t.val < 128 := t.isLt
  refine (InProjRow.X_apply (args m c) (posOf t s) ⟨t.val / 64, by omega⟩ ⟨e, he⟩ ⟨n, hn⟩ l).symm.trans ?_
  unfold Xb
  refine congrArg (fun p => InProjRow.X (args m c) (ix4 ⟨t.val / 64, _⟩ ⟨n, hn⟩ p l)) (Fin.ext ?_)
  show (t.val % 64 * 64 + s.val) * 8 + e = t.val % 64 * 512 + (s.val * 8 + e)
  omega

set_option maxHeartbeats 4000000 in
/-- The recurrent input after the run. -/
theorem final9 (c : Dev nD) : (dats m 0 c).arrAt 9 (cfgs 0).N = InProjRow.X (args m c) := by
  refine (dats m 0 c).arrAt_eq_of_covers 9 _ (by decide +kernel) fun t _ y => ?_
  blk_simp
  rw [after9]
  unfold left9 runAt
  frame_out
  obtain ⟨u, n, p, l, rfl⟩ : ∃ (u : Fin 1) (n : Fin 10) (p : Fin 512) (l : Fin 128), y = ix4 u n p l := ⟨y 0, y 1, y 2, y 3, eq_ix4 y⟩
  refine Eq.trans ?_ (congrArg (InProjRow.X (args m c)) (emb9 t u n p l).symm)
  refine View.canon_apply_of_pieces (Xb m c t) _ (View.PiecesOf.mem ?_) _ ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    · exact xpiece m c t 9 7 (by decide) (by decide) inb_S1x10x512x128_S1x1x64x128_0_9_7_0_s_1_1_8_1 spos_1_1_8_1 _ (piece_9_7 (zx m c t))
    · exact xpiece m c t 9 6 (by decide) (by decide) inb_S1x10x512x128_S1x1x64x128_0_9_6_0_s_1_1_8_1 spos_1_1_8_1 _ (piece_9_6 (zx m c t))
    · exact xpiece m c t 9 5 (by decide) (by decide) inb_S1x10x512x128_S1x1x64x128_0_9_5_0_s_1_1_8_1 spos_1_1_8_1 _ (piece_9_5 (zx m c t))
    · exact xpiece m c t 9 4 (by decide) (by decide) inb_S1x10x512x128_S1x1x64x128_0_9_4_0_s_1_1_8_1 spos_1_1_8_1 _ (piece_9_4 (zx m c t))
    · exact xpiece m c t 9 3 (by decide) (by decide) inb_S1x10x512x128_S1x1x64x128_0_9_3_0_s_1_1_8_1 spos_1_1_8_1 _ (piece_9_3 (zx m c t))
    · exact xpiece m c t 9 2 (by decide) (by decide) inb_S1x10x512x128_S1x1x64x128_0_9_2_0_s_1_1_8_1 spos_1_1_8_1 _ (piece_9_2 (zx m c t))
    · exact xpiece m c t 9 1 (by decide) (by decide) inb_S1x10x512x128_S1x1x64x128_0_9_1_0_s_1_1_8_1 spos_1_1_8_1 _ (piece_9_1 (zx m c t))
    · exact xpiece m c t 9 0 (by decide) (by decide) inb_S1x10x512x128_S1x1x64x128_0_9_0_0_s_1_1_8_1 spos_1_1_8_1 _ (piece_9_0 (zx m c t))
    · exact xpiece m c t 8 7 (by decide) (by decide) inb_S1x10x512x128_S1x1x64x128_0_8_7_0_s_1_1_8_1 spos_1_1_8_1 _ (piece_8_7 (zx m c t))
    · exact xpiece m c t 8 6 (by decide) (by decide) inb_S1x10x512x128_S1x1x64x128_0_8_6_0_s_1_1_8_1 spos_1_1_8_1 _ (piece_8_6 (zx m c t))
    · exact xpiece m c t 8 5 (by decide) (by decide) inb_S1x10x512x128_S1x1x64x128_0_8_5_0_s_1_1_8_1 spos_1_1_8_1 _ (piece_8_5 (zx m c t))
    · exact xpiece m c t 8 4 (by decide) (by decide) inb_S1x10x512x128_S1x1x64x128_0_8_4_0_s_1_1_8_1 spos_1_1_8_1 _ (piece_8_4 (zx m c t))
    · exact xpiece m c t 8 3 (by decide) (by decide) inb_S1x10x512x128_S1x1x64x128_0_8_3_0_s_1_1_8_1 spos_1_1_8_1 _ (piece_8_3 (zx m c t))
    · exact xpiece m c t 8 2 (by decide) (by decide) inb_S1x10x512x128_S1x1x64x128_0_8_2_0_s_1_1_8_1 spos_1_1_8_1 _ (piece_8_2 (zx m c t))
    · exact xpiece m c t 8 1 (by decide) (by decide) inb_S1x10x512x128_S1x1x64x128_0_8_1_0_s_1_1_8_1 spos_1_1_8_1 _ (piece_8_1 (zx m c t))
    · exact xpiece m c t 8 0 (by decide) (by decide) inb_S1x10x512x128_S1x1x64x128_0_8_0_0_s_1_1_8_1 spos_1_1_8_1 _ (piece_8_0 (zx m c t))
    · exact xpiece m c t 7 7 (by decide) (by decide) inb_S1x10x512x128_S1x1x64x128_0_7_7_0_s_1_1_8_1 spos_1_1_8_1 _ (piece_7_7 (zx m c t))
    · exact xpiece m c t 7 6 (by decide) (by decide) inb_S1x10x512x128_S1x1x64x128_0_7_6_0_s_1_1_8_1 spos_1_1_8_1 _ (piece_7_6 (zx m c t))
    · exact xpiece m c t 7 5 (by decide) (by decide) inb_S1x10x512x128_S1x1x64x128_0_7_5_0_s_1_1_8_1 spos_1_1_8_1 _ (piece_7_5 (zx m c t))
    · exact xpiece m c t 7 4 (by decide) (by decide) inb_S1x10x512x128_S1x1x64x128_0_7_4_0_s_1_1_8_1 spos_1_1_8_1 _ (piece_7_4 (zx m c t))
    · exact xpiece m c t 7 3 (by decide) (by decide) inb_S1x10x512x128_S1x1x64x128_0_7_3_0_s_1_1_8_1 spos_1_1_8_1 _ (piece_7_3 (zx m c t))
    · exact xpiece m c t 7 2 (by decide) (by decide) inb_S1x10x512x128_S1x1x64x128_0_7_2_0_s_1_1_8_1 spos_1_1_8_1 _ (piece_7_2 (zx m c t))
    · exact xpiece m c t 7 1 (by decide) (by decide) inb_S1x10x512x128_S1x1x64x128_0_7_1_0_s_1_1_8_1 spos_1_1_8_1 _ (piece_7_1 (zx m c t))
    · exact xpiece m c t 7 0 (by decide) (by decide) inb_S1x10x512x128_S1x1x64x128_0_7_0_0_s_1_1_8_1 spos_1_1_8_1 _ (piece_7_0 (zx m c t))
    · exact xpiece m c t 6 7 (by decide) (by decide) inb_S1x10x512x128_S1x1x64x128_0_6_7_0_s_1_1_8_1 spos_1_1_8_1 _ (piece_6_7 (zx m c t))
    · exact xpiece m c t 6 6 (by decide) (by decide) inb_S1x10x512x128_S1x1x64x128_0_6_6_0_s_1_1_8_1 spos_1_1_8_1 _ (piece_6_6 (zx m c t))
    · exact xpiece m c t 6 5 (by decide) (by decide) inb_S1x10x512x128_S1x1x64x128_0_6_5_0_s_1_1_8_1 spos_1_1_8_1 _ (piece_6_5 (zx m c t))
    · exact xpiece m c t 6 4 (by decide) (by decide) inb_S1x10x512x128_S1x1x64x128_0_6_4_0_s_1_1_8_1 spos_1_1_8_1 _ (piece_6_4 (zx m c t))
    · exact xpiece m c t 6 3 (by decide) (by decide) inb_S1x10x512x128_S1x1x64x128_0_6_3_0_s_1_1_8_1 spos_1_1_8_1 _ (piece_6_3 (zx m c t))
    · exact xpiece m c t 6 2 (by decide) (by decide) inb_S1x10x512x128_S1x1x64x128_0_6_2_0_s_1_1_8_1 spos_1_1_8_1 _ (piece_6_2 (zx m c t))
    · exact xpiece m c t 6 1 (by decide) (by decide) inb_S1x10x512x128_S1x1x64x128_0_6_1_0_s_1_1_8_1 spos_1_1_8_1 _ (piece_6_1 (zx m c t))
    · exact xpiece m c t 6 0 (by decide) (by decide) inb_S1x10x512x128_S1x1x64x128_0_6_0_0_s_1_1_8_1 spos_1_1_8_1 _ (piece_6_0 (zx m c t))
    · exact xpiece m c t 5 7 (by decide) (by decide) inb_S1x10x512x128_S1x1x64x128_0_5_7_0_s_1_1_8_1 spos_1_1_8_1 _ (piece_5_7 (zx m c t))
    · exact xpiece m c t 5 6 (by decide) (by decide) inb_S1x10x512x128_S1x1x64x128_0_5_6_0_s_1_1_8_1 spos_1_1_8_1 _ (piece_5_6 (zx m c t))
    · exact xpiece m c t 5 5 (by decide) (by decide) inb_S1x10x512x128_S1x1x64x128_0_5_5_0_s_1_1_8_1 spos_1_1_8_1 _ (piece_5_5 (zx m c t))
    · exact xpiece m c t 5 4 (by decide) (by decide) inb_S1x10x512x128_S1x1x64x128_0_5_4_0_s_1_1_8_1 spos_1_1_8_1 _ (piece_5_4 (zx m c t))
    · exact xpiece m c t 5 3 (by decide) (by decide) inb_S1x10x512x128_S1x1x64x128_0_5_3_0_s_1_1_8_1 spos_1_1_8_1 _ (piece_5_3 (zx m c t))
    · exact xpiece m c t 5 2 (by decide) (by decide) inb_S1x10x512x128_S1x1x64x128_0_5_2_0_s_1_1_8_1 spos_1_1_8_1 _ (piece_5_2 (zx m c t))
    · exact xpiece m c t 5 1 (by decide) (by decide) inb_S1x10x512x128_S1x1x64x128_0_5_1_0_s_1_1_8_1 spos_1_1_8_1 _ (piece_5_1 (zx m c t))
    · exact xpiece m c t 5 0 (by decide) (by decide) inb_S1x10x512x128_S1x1x64x128_0_5_0_0_s_1_1_8_1 spos_1_1_8_1 _ (piece_5_0 (zx m c t))
    · exact xpiece m c t 4 7 (by decide) (by decide) inb_S1x10x512x128_S1x1x64x128_0_4_7_0_s_1_1_8_1 spos_1_1_8_1 _ (piece_4_7 (zx m c t))
    · exact xpiece m c t 4 6 (by decide) (by decide) inb_S1x10x512x128_S1x1x64x128_0_4_6_0_s_1_1_8_1 spos_1_1_8_1 _ (piece_4_6 (zx m c t))
    · exact xpiece m c t 4 5 (by decide) (by decide) inb_S1x10x512x128_S1x1x64x128_0_4_5_0_s_1_1_8_1 spos_1_1_8_1 _ (piece_4_5 (zx m c t))
    · exact xpiece m c t 4 4 (by decide) (by decide) inb_S1x10x512x128_S1x1x64x128_0_4_4_0_s_1_1_8_1 spos_1_1_8_1 _ (piece_4_4 (zx m c t))
    · exact xpiece m c t 4 3 (by decide) (by decide) inb_S1x10x512x128_S1x1x64x128_0_4_3_0_s_1_1_8_1 spos_1_1_8_1 _ (piece_4_3 (zx m c t))
    · exact xpiece m c t 4 2 (by decide) (by decide) inb_S1x10x512x128_S1x1x64x128_0_4_2_0_s_1_1_8_1 spos_1_1_8_1 _ (piece_4_2 (zx m c t))
    · exact xpiece m c t 4 1 (by decide) (by decide) inb_S1x10x512x128_S1x1x64x128_0_4_1_0_s_1_1_8_1 spos_1_1_8_1 _ (piece_4_1 (zx m c t))
    · exact xpiece m c t 4 0 (by decide) (by decide) inb_S1x10x512x128_S1x1x64x128_0_4_0_0_s_1_1_8_1 spos_1_1_8_1 _ (piece_4_0 (zx m c t))
    · exact xpiece m c t 3 7 (by decide) (by decide) inb_S1x10x512x128_S1x1x64x128_0_3_7_0_s_1_1_8_1 spos_1_1_8_1 _ (piece_3_7 (zx m c t))
    · exact xpiece m c t 3 6 (by decide) (by decide) inb_S1x10x512x128_S1x1x64x128_0_3_6_0_s_1_1_8_1 spos_1_1_8_1 _ (piece_3_6 (zx m c t))
    · exact xpiece m c t 3 5 (by decide) (by decide) inb_S1x10x512x128_S1x1x64x128_0_3_5_0_s_1_1_8_1 spos_1_1_8_1 _ (piece_3_5 (zx m c t))
    · exact xpiece m c t 3 4 (by decide) (by decide) inb_S1x10x512x128_S1x1x64x128_0_3_4_0_s_1_1_8_1 spos_1_1_8_1 _ (piece_3_4 (zx m c t))
    · exact xpiece m c t 3 3 (by decide) (by decide) inb_S1x10x512x128_S1x1x64x128_0_3_3_0_s_1_1_8_1 spos_1_1_8_1 _ (piece_3_3 (zx m c t))
    · exact xpiece m c t 3 2 (by decide) (by decide) inb_S1x10x512x128_S1x1x64x128_0_3_2_0_s_1_1_8_1 spos_1_1_8_1 _ (piece_3_2 (zx m c t))
    · exact xpiece m c t 3 1 (by decide) (by decide) inb_S1x10x512x128_S1x1x64x128_0_3_1_0_s_1_1_8_1 spos_1_1_8_1 _ (piece_3_1 (zx m c t))
    · exact xpiece m c t 3 0 (by decide) (by decide) inb_S1x10x512x128_S1x1x64x128_0_3_0_0_s_1_1_8_1 spos_1_1_8_1 _ (piece_3_0 (zx m c t))
    · exact xpiece m c t 2 7 (by decide) (by decide) inb_S1x10x512x128_S1x1x64x128_0_2_7_0_s_1_1_8_1 spos_1_1_8_1 _ (piece_2_7 (zx m c t))
    · exact xpiece m c t 2 6 (by decide) (by decide) inb_S1x10x512x128_S1x1x64x128_0_2_6_0_s_1_1_8_1 spos_1_1_8_1 _ (piece_2_6 (zx m c t))
    · exact xpiece m c t 2 5 (by decide) (by decide) inb_S1x10x512x128_S1x1x64x128_0_2_5_0_s_1_1_8_1 spos_1_1_8_1 _ (piece_2_5 (zx m c t))
    · exact xpiece m c t 2 4 (by decide) (by decide) inb_S1x10x512x128_S1x1x64x128_0_2_4_0_s_1_1_8_1 spos_1_1_8_1 _ (piece_2_4 (zx m c t))
    · exact xpiece m c t 2 3 (by decide) (by decide) inb_S1x10x512x128_S1x1x64x128_0_2_3_0_s_1_1_8_1 spos_1_1_8_1 _ (piece_2_3 (zx m c t))
    · exact xpiece m c t 2 2 (by decide) (by decide) inb_S1x10x512x128_S1x1x64x128_0_2_2_0_s_1_1_8_1 spos_1_1_8_1 _ (piece_2_2 (zx m c t))
    · exact xpiece m c t 2 1 (by decide) (by decide) inb_S1x10x512x128_S1x1x64x128_0_2_1_0_s_1_1_8_1 spos_1_1_8_1 _ (piece_2_1 (zx m c t))
    · exact xpiece m c t 2 0 (by decide) (by decide) inb_S1x10x512x128_S1x1x64x128_0_2_0_0_s_1_1_8_1 spos_1_1_8_1 _ (piece_2_0 (zx m c t))
    · exact xpiece m c t 1 7 (by decide) (by decide) inb_S1x10x512x128_S1x1x64x128_0_1_7_0_s_1_1_8_1 spos_1_1_8_1 _ (piece_1_7 (zx m c t))
    · exact xpiece m c t 1 6 (by decide) (by decide) inb_S1x10x512x128_S1x1x64x128_0_1_6_0_s_1_1_8_1 spos_1_1_8_1 _ (piece_1_6 (zx m c t))
    · exact xpiece m c t 1 5 (by decide) (by decide) inb_S1x10x512x128_S1x1x64x128_0_1_5_0_s_1_1_8_1 spos_1_1_8_1 _ (piece_1_5 (zx m c t))
    · exact xpiece m c t 1 4 (by decide) (by decide) inb_S1x10x512x128_S1x1x64x128_0_1_4_0_s_1_1_8_1 spos_1_1_8_1 _ (piece_1_4 (zx m c t))
    · exact xpiece m c t 1 3 (by decide) (by decide) inb_S1x10x512x128_S1x1x64x128_0_1_3_0_s_1_1_8_1 spos_1_1_8_1 _ (piece_1_3 (zx m c t))
    · exact xpiece m c t 1 2 (by decide) (by decide) inb_S1x10x512x128_S1x1x64x128_0_1_2_0_s_1_1_8_1 spos_1_1_8_1 _ (piece_1_2 (zx m c t))
    · exact xpiece m c t 1 1 (by decide) (by decide) inb_S1x10x512x128_S1x1x64x128_0_1_1_0_s_1_1_8_1 spos_1_1_8_1 _ (piece_1_1 (zx m c t))
    · exact xpiece m c t 1 0 (by decide) (by decide) inb_S1x10x512x128_S1x1x64x128_0_1_0_0_s_1_1_8_1 spos_1_1_8_1 _ (piece_1_0 (zx m c t))
    · exact xpiece m c t 0 7 (by decide) (by decide) inb_S1x10x512x128_S1x1x64x128_0_0_7_0_s_1_1_8_1 spos_1_1_8_1 _ (piece_0_7 (zx m c t))
    · exact xpiece m c t 0 6 (by decide) (by decide) inb_S1x10x512x128_S1x1x64x128_0_0_6_0_s_1_1_8_1 spos_1_1_8_1 _ (piece_0_6 (zx m c t))
    · exact xpiece m c t 0 5 (by decide) (by decide) inb_S1x10x512x128_S1x1x64x128_0_0_5_0_s_1_1_8_1 spos_1_1_8_1 _ (piece_0_5 (zx m c t))
    · exact xpiece m c t 0 4 (by decide) (by decide) inb_S1x10x512x128_S1x1x64x128_0_0_4_0_s_1_1_8_1 spos_1_1_8_1 _ (piece_0_4 (hh m c t) (ww m c t))
    · exact xpiece m c t 0 3 (by decide) (by decide) inb_S1x10x512x128_S1x1x64x128_0_0_3_0_s_1_1_8_1 spos_1_1_8_1 _ (piece_0_3 (hh m c t) (ww m c t))
    · exact xpiece m c t 0 2 (by decide) (by decide) inb_S1x10x512x128_S1x1x64x128_0_0_2_0_s_1_1_8_1 spos_1_1_8_1 _ (piece_0_2 (hh m c t) (ww m c t))
    · exact xpiece m c t 0 1 (by decide) (by decide) inb_S1x10x512x128_S1x1x64x128_0_0_1_0_s_1_1_8_1 spos_1_1_8_1 _ (piece_0_1 (hh m c t) (ww m c t))
    · exact xpiece m c t 0 0 (by decide) (by decide) inb_S1x10x512x128_S1x1x64x128_0_0_0_0_s_1_1_8_1 spos_1_1_8_1 _ (piece_0_0 (hh m c t) (ww m c t))
  · exact cover_of_interleaved _ (by sl_kernel_rfl) _

end Cert.InProjIdeal.Row

end
-- ==== Proof.InProjRef.lean ====
module

public import proofs.«01_k».proof.Proof.Gen.InProjRefIdeal.Run
public import proofs.«01_k».proof.Proof.InProjRow

@[expose] public section

set_option maxRecDepth 16384

noncomputable section

open Idealize.ShloMosaic Idealize.ShloMosaic.TcCoe Idealize.SL.Sem

namespace Cert.InProjRefIdeal.Row

open Cert.InProjRefIdeal Cert.InProjRefIdeal.Gen Cert.InProjRefIdeal.Value

/-- The reference's arguments from memory. -/
abbrev args (m : (ℓ : Loc nD τ sig) → Buf (Elt Ideal) ℓ) (c : Dev nD) : InProjRow.Args :=
  ⟨fun b s k => m ((c.tc : Thread nD τ).loc main_arg0) (ix3 b s k), fun k => m ((c.tc : Thread nD τ).loc main_arg1) (ix1 k),
    fun a b => m ((c.tc : Thread nD τ).loc main_arg2) (ix2 a b)⟩

/-- The reference's angles. -/
def angles : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The reference's angle at a position and a frequency. -/
theorem angles_apply (s : Fin 4096) (k : Fin 16) : angles (ix2 s k) = InProjRow.ang s k := by
  unfold angles
  pointwise [InProjRow.ang]

/-- The query columns of a projection, split into heads. -/
def split (D : FVec Ideal S16x4096x6144 .f32) : FVec Ideal S16x4096x8x128 .f32 :=
  shapeCast S16x4096x8x128 (extractStridedSlice S16x4096x1024 ![0, 0, 0] D slices_S16x4096x6144_S16x4096x1024_0_0_0) shapeCasts_S16x4096x1024_S16x4096x8x128

/-- The split at an index. -/
theorem split_apply (D : FVec Ideal S16x4096x6144 .f32) (b : Fin 16) (s : Fin 4096) (n : Fin 8) (l : Fin 128) :
    split D (ix4 b s n l) = D (ix3 b s ⟨n * 128 + l, by omega⟩) := by
  unfold split
  pointwise []

/-- The rotary embedding of every head. -/
def turned (A : FVec Ideal S16x4096x8x128 .f32) : FVec Ideal S16x4096x8x128 .f32 :=
  concatenate S16x4096x8x128 3 [⟨S16x4096x8x32, (concatenate S16x4096x8x32 3 [⟨S16x4096x8x16, (subf (mulf (extractStridedSlice S16x4096x8x16 ![0, 0, 0, 0] (extractStridedSlice S16x4096x8x32 ![0, 0, 0, 0] A slices_S16x4096x8x128_S16x4096x8x32_0_0_0_0) slices_S16x4096x8x32_S16x4096x8x16_0_0_0_0) (broadcastInDim S16x4096x8x16 ![0, 1, 2, 3] bcast_S1x4096x1x16_S16x4096x8x16_0_1_2_3 (broadcastInDim S1x4096x1x16 ![1, 3] bcast_S4096x16_S1x4096x1x16_1_3 (Host.cos angles)))) (mulf (extractStridedSlice S16x4096x8x16 ![0, 0, 0, 16] (extractStridedSlice S16x4096x8x32 ![0, 0, 0, 0] A slices_S16x4096x8x128_S16x4096x8x32_0_0_0_0) slices_S16x4096x8x32_S16x4096x8x16_0_0_0_16) (broadcastInDim S16x4096x8x16 ![0, 1, 2, 3] bcast_S1x4096x1x16_S16x4096x8x16_0_1_2_3 (broadcastInDim S1x4096x1x16 ![1, 3] bcast_S4096x16_S1x4096x1x16_1_3 (Host.sin angles)))))⟩, ⟨S16x4096x8x16, (addf (mulf (extractStridedSlice S16x4096x8x16 ![0, 0, 0, 16] (extractStridedSlice S16x4096x8x32 ![0, 0, 0, 0] A slices_S16x4096x8x128_S16x4096x8x32_0_0_0_0) slices_S16x4096x8x32_S16x4096x8x16_0_0_0_16) (broadcastInDim S16x4096x8x16 ![0, 1, 2, 3] bcast_S1x4096x1x16_S16x4096x8x16_0_1_2_3 (broadcastInDim S1x4096x1x16 ![1, 3] bcast_S4096x16_S1x4096x1x16_1_3 (Host.cos angles)))) (mulf (extractStridedSlice S16x4096x8x16 ![0, 0, 0, 0] (extractStridedSlice S16x4096x8x32 ![0, 0, 0, 0] A slices_S16x4096x8x128_S16x4096x8x32_0_0_0_0) slices_S16x4096x8x32_S16x4096x8x16_0_0_0_0) (broadcastInDim S16x4096x8x16 ![0, 1, 2, 3] bcast_S1x4096x1x16_S16x4096x8x16_0_1_2_3 (broadcastInDim S1x4096x1x16 ![1, 3] bcast_S4096x16_S1x4096x1x16_1_3 (Host.sin angles)))))⟩] concatenates_S16x4096x8x16_S16x4096x8x16_S16x4096x8x32_d3)⟩, ⟨S16x4096x8x96, (extractStridedSlice S16x4096x8x96 ![0, 0, 0, 32] A slices_S16x4096x8x128_S16x4096x8x96_0_0_0_32)⟩] concatenates_S16x4096x8x32_S16x4096x8x96_S16x4096x8x128_d3

/-- The rotary embedding at an index. -/
theorem turned_apply (A : FVec Ideal S16x4096x8x128 .f32) (b : Fin 16) (s : Fin 4096) (n : Fin 8) (l : Fin 128) :
    turned A (ix4 b s n l) = InProjRow.rope s (fun l => A (ix4 b s n l)) l := by
  unfold turned
  pointwise [InProjRow.rope, angles_apply]

/-- The scaled heads, side by side. -/
def joined (Y : FVec Ideal S16x4096x8x128 .f32) : FVec Ideal S16x4096x1024 .bf16 :=
  truncf .bf16 (mulf (shapeCast S16x4096x1024 Y shapeCasts_S16x4096x8x128_S16x4096x1024) (broadcastInDim S16x4096x1024 ![] bcast_S_S16x4096x1024 (constant S_ .f32 0x3DB504F3#32))) bitsLt_bf16_f32

/-- The scaled heads at an index. -/
theorem joined_apply (Y : FVec Ideal S16x4096x8x128 .f32) (b : Fin 16) (s : Fin 4096) (n : Fin 8) (l : Fin 128) :
    joined Y (ix3 b s ⟨n * 128 + l, by omega⟩) = Y (ix4 b s n l) * Ideal.ofBits .f32 0x3DB504F3#32 := by
  unfold joined
  pointwise []

/-- The reference's projection. -/
def proj (m : (ℓ : Loc nD τ sig) → Buf (Elt Ideal) ℓ) (c : Dev nD) : FVec Ideal S16x4096x6144 .f32 :=
  Host.dotGeneral (F := Ideal) (φ₁ := .f32) (φ₂ := .f32) dot_S16x4096x1024_S1024x6144_S16x4096x6144_2_0_01_1_n_n none (mulf (mulf (m ((c.tc : Thread nD τ).loc main_arg0)) (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf (m ((c.tc : Thread nD τ).loc main_arg0)) (m ((c.tc : Thread nD τ).loc main_arg0))) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (m ((c.tc : Thread nD τ).loc main_arg1))))) (m ((c.tc : Thread nD τ).loc main_arg2))

/-- The reference's projection at an index. -/
theorem proj_apply (m : (ℓ : Loc nD τ sig) → Buf (Elt Ideal) ℓ) (c : Dev nD) (b : Fin 16) (s : Fin 4096) (j : Fin 6144) :
    proj m c (ix3 b s j) = InProjRow.z (args m c) b s j := by
  unfold proj
  pointwise [InProjRow.z, FfnRow.norm, FfnRow.dot]

/-- The reference's queries, part by part. -/
theorem res0_eq (m : (ℓ : Loc nD τ sig) → Buf (Elt Ideal) ℓ) (c : Dev nD) : res_out0 m c = joined (turned (split (proj m c))) := by
  unfold res_out0 res_main_v95 joined turned split proj angles
  rfl

/-- The reference's queries. -/
theorem res0 (m : (ℓ : Loc nD τ sig) → Buf (Elt Ideal) ℓ) (c : Dev nD) (b : Fin 16) (s : Fin 4096) (n : Fin 8) (l : Fin 128) :
    res_out0 m c (ix3 b s ⟨n * 128 + l, by omega⟩) = InProjRow.q (args m c) b s n l := by
  rw [res0_eq, joined_apply, turned_apply]
  have e : (fun l : Fin 128 => split (proj m c) (ix4 b s n l)) = fun l : Fin 128 => InProjRow.z (args m c) b s ⟨n * 128 + l, by omega⟩ :=
    funext fun l => (split_apply _ b s n l).trans (proj_apply m c b s _)
  rw [e]
  rfl

/-- The reference's keys. -/
theorem res1 (m : (ℓ : Loc nD τ sig) → Buf (Elt Ideal) ℓ) (c : Dev nD) (b : Fin 16) (s : Fin 4096) (n : Fin 2) (l : Fin 128) :
    res_out1 m c (ix3 b s ⟨n * 128 + l, by omega⟩) = InProjRow.k (args m c) b s n l := by
  unfold res_out1 res_main_v96
  clean_types
  generalize hD : (Host.dotGeneral (F := Ideal) dot_S16x4096x1024_S1024x6144_S16x4096x6144_2_0_01_1_n_n none _ _ : FVec Ideal S16x4096x6144 .f32) = D
  have hz (j : Fin 6144) : D (ix3 b s j) = InProjRow.z (args m c) b s j := by
    rw [← hD]
    pointwise [InProjRow.z, FfnRow.norm, FfnRow.dot]
  clear hD
  pointwise [InProjRow.k, InProjRow.rope, InProjRow.ang, hz]

/-- The reference's recurrent gate. -/
theorem res4 (m : (ℓ : Loc nD τ sig) → Buf (Elt Ideal) ℓ) (c : Dev nD) (b : Fin 16) (s : Fin 4096) (j : Fin 1280) :
    res_out4 m c (ix3 b s j) = InProjRow.R (args m c) (ix3 b s j) := by
  unfold res_out4 res_main_v111
  clean_types
  pointwise [InProjRow.R, InProjRow.gelu, InProjRow.z, FfnRow.norm, FfnRow.dot]

/-- The reference's run: its seven results at every index, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v95) = (InProjRow.Q (args m c)))
      ∧ (r.2.mem ((c.tc : Thread nD τ).loc main_v96) = (InProjRow.K (args m c)))
      ∧ (r.2.mem ((c.tc : Thread nD τ).loc main_v97) = (InProjRow.W (args m c)))
      ∧ (r.2.mem ((c.tc : Thread nD τ).loc main_v94) = (InProjRow.X (args m c)))
      ∧ (r.2.mem ((c.tc : Thread nD τ).loc main_v111) = (InProjRow.R (args m c)))
      ∧ (r.2.mem ((c.tc : Thread nD τ).loc main_v118) = (InProjRow.GA (args m c)))
      ∧ (r.2.mem ((c.tc : Thread nD τ).loc main_v125) = (InProjRow.GR (args m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      funext i
      obtain ⟨b, s, j, rfl⟩ : ∃ (b : Fin 16) (s : Fin 4096) (j : Fin 1024), i = ix3 b s j := ⟨i 0, i 1, i 2, eq_ix3 i⟩
      obtain ⟨n, l, rfl⟩ : ∃ (n : Fin 8) (l : Fin 128), j = ⟨n * 128 + l, by omega⟩ :=
        ⟨⟨j.val / 128, by omega⟩, ⟨j.val % 128, by omega⟩, Fin.ext (by show j.val = j.val / 128 * 128 + j.val % 128; omega)⟩
      exact (res0 m c b s n l).trans (InProjRow.Q_apply _ b s n l).symm),
    (h c).2.1.trans (by
      funext i
      obtain ⟨b, s, j, rfl⟩ : ∃ (b : Fin 16) (s : Fin 4096) (j : Fin 256), i = ix3 b s j := ⟨i 0, i 1, i 2, eq_ix3 i⟩
      obtain ⟨n, l, rfl⟩ : ∃ (n : Fin 2) (l : Fin 128), j = ⟨n * 128 + l, by omega⟩ :=
        ⟨⟨j.val / 128, by omega⟩, ⟨j.val % 128, by omega⟩, Fin.ext (by show j.val = j.val / 128 * 128 + j.val % 128; omega)⟩
      exact (res1 m c b s n l).trans (InProjRow.K_apply _ b s n l).symm),
    (h c).2.2.1.trans (by
      funext i
      obtain ⟨b, s, j, rfl⟩ : ∃ (b : Fin 16) (s : Fin 4096) (j : Fin 256), i = ix3 b s j := ⟨i 0, i 1, i 2, eq_ix3 i⟩
      clean_types
      pointwise [InProjRow.W, InProjRow.z, FfnRow.norm, FfnRow.dot]),
    (h c).2.2.2.1.trans (by
      funext i
      obtain ⟨g, n, p, l, rfl⟩ : ∃ (g : Fin 2) (n : Fin 10) (p : Fin 32768) (l : Fin 128), i = ix4 g n p l :=
        ⟨i 0, i 1, i 2, i 3, eq_ix4 i⟩
      obtain ⟨s, e, rfl⟩ : ∃ (s : Fin 4096) (e : Fin 8), p = ⟨s * 8 + e, by omega⟩ :=
        ⟨⟨p.val / 8, by omega⟩, ⟨p.val % 8, by omega⟩, Fin.ext (by show p.val = p.val / 8 * 8 + p.val % 8; omega)⟩
      refine Eq.trans ?_ (InProjRow.X_apply _ s g e n l).symm
      clean_types
      pointwise [InProjRow.z, FfnRow.norm, FfnRow.dot]),
    (h c).2.2.2.2.1.trans (by
      funext i
      obtain ⟨b, s, j, rfl⟩ : ∃ (b : Fin 16) (s : Fin 4096) (j : Fin 1280), i = ix3 b s j := ⟨i 0, i 1, i 2, eq_ix3 i⟩
      exact res4 m c b s j),
    (h c).2.2.2.2.2.1.trans (by
      funext i
      obtain ⟨b, s, j, rfl⟩ : ∃ (b : Fin 16) (s : Fin 4096) (j : Fin 1024), i = ix3 b s j := ⟨i 0, i 1, i 2, eq_ix3 i⟩
      clean_types
      pointwise [InProjRow.GA, InProjRow.logistic, InProjRow.z, FfnRow.norm, FfnRow.dot]),
    (h c).2.2.2.2.2.2.1.trans (by
      funext i
      obtain ⟨b, s, j, rfl⟩ : ∃ (b : Fin 16) (s : Fin 4096) (j : Fin 1024), i = ix3 b s j := ⟨i 0, i 1, i 2, eq_ix3 i⟩
      clean_types
      pointwise [InProjRow.GR, InProjRow.logistic, InProjRow.z, FfnRow.norm, FfnRow.dot]),
    (h c).2.2.2.2.2.2.2⟩) (Value.run m ρ)

end Cert.InProjRefIdeal.Row

end
-- ==== Proof.InProjEq.lean ====
module

public import proofs.«01_k».proof.Defs
public import proofs.«01_k».proof.Proof.InProjFrame
public import proofs.«01_k».proof.Proof.InProjFinal
public import proofs.«01_k».proof.Proof.InProjQK
public import proofs.«01_k».proof.Proof.InProjX
public import proofs.«01_k».proof.Proof.InProjRef

@[expose] public section

noncomputable section

open Idealize.ShloMosaic Idealize.ShloMosaic.TcCoe Idealize.SL.Sem

namespace Cert.Proof.InProjEq

variable [hInProj : Cert.InProj.Facts] [hInProjIdeal : Cert.InProjIdeal.Facts] [hInProjRefIdeal : Cert.InProjRefIdeal.Facts]

/-- The input projection's call runs without fault and leaves its arguments unchanged, in every arithmetic. -/
theorem frame_p : Cert.quiescent_InProj := fun m ρ _ => Cert.InProj.Hand.frame m ρ

/-- The same of the idealized call. -/
theorem frame_i : Cert.quiescent_InProjIdeal := fun m ρ _ => Cert.InProjIdeal.Hand.frame m ρ

/-- The same of the reference: it has no semaphore, and its run says what the arguments hold. -/
theorem frame_r : Cert.quiescent_InProjRefIdeal := fun m ρ _ =>
  (θ_run Cert.InProjRefIdeal.defs _ _).mono
    (fun r h => ⟨fun c => (h c).2.2.2.2.2.2.2, Idealize.ShloMosaic.sem_eq_zero_of_no_sems (by decide) r.2⟩)
    (Cert.InProjRefIdeal.Row.run m ρ)

/-- Idealizing the input projection's call rewrote nothing. -/
theorem preserves : Cert.preserves_InProj_InProjIdeal := trivial

/-- The input projection's call and its reference compute the same seven arrays from the same arguments. -/
theorem algebraic : Cert.algebraic_InProjIdeal_InProjRefIdeal := by
  intro m ρ m' ρ' _ hag
  have e (c : Dev Cert.InProjIdeal.nD) : Cert.InProjRefIdeal.Row.args m' c = Cert.InProjIdeal.Row.args m c := by
    obtain ⟨h0, h1, h2⟩ := hag c
    unfold Cert.InProjRefIdeal.Row.args Cert.InProjIdeal.Row.args
    rw [h0, h1, h2]
  refine ⟨fun c => InProjRow.Q (Cert.InProjIdeal.Row.args m c), fun c => InProjRow.K (Cert.InProjIdeal.Row.args m c),
    fun c => InProjRow.W (Cert.InProjIdeal.Row.args m c), fun c => InProjRow.X (Cert.InProjIdeal.Row.args m c),
    fun c => InProjRow.R (Cert.InProjIdeal.Row.args m c), fun c => InProjRow.GA (Cert.InProjIdeal.Row.args m c),
    fun c => InProjRow.GR (Cert.InProjIdeal.Row.args m c), ?_, ?_⟩
  · exact (θ_run Cert.InProjIdeal.defs _ _).mono (fun _ h c =>
      ⟨((h.1 c).1 6).trans (Cert.InProjIdeal.Row.final6 m c), ((h.1 c).1 7).trans (Cert.InProjIdeal.Row.final7 m c),
        ((h.1 c).1 8).trans (Cert.InProjIdeal.Row.final8 m c), ((h.1 c).1 9).trans (Cert.InProjIdeal.Row.final9 m c),
        ((h.1 c).1 10).trans (Cert.InProjIdeal.Row.final10 m c), ((h.1 c).1 11).trans (Cert.InProjIdeal.Row.final11 m c),
        ((h.1 c).1 12).trans (Cert.InProjIdeal.Row.final12 m c), h.2.1 c⟩)
      (θ_run_and (Cert.InProjIdeal.Hand.run_arrays (F := Ideal) m ρ) (Cert.InProjIdeal.Hand.frame (F := Ideal) m ρ))
  · refine (θ_run Cert.InProjRefIdeal.defs _ _).mono (fun _ h c => ?_) (Cert.InProjRefIdeal.Row.run m' ρ')
    have h := h c
    rw [e c] at h
    exact h

end Cert.Proof.InProjEq

end
-- ==== Proof.lean ====
/- The claims about the input projection's, attention, merge and feed-forward calls, assembled. -/
module

public import proofs.«01_k».proof.Defs
public import proofs.«01_k».proof.Proof.AttnEq
public import proofs.«01_k».proof.Proof.FfnEq
public import proofs.«01_k».proof.Proof.MergeEq
public import proofs.«01_k».proof.Proof.InProjEq
public import proofs.«01_k».proof.Proof.Gen.Attn
public import proofs.«01_k».proof.Proof.Gen.AttnIdeal
public import proofs.«01_k».proof.Proof.Gen.AttnRefIdeal
public import proofs.«01_k».proof.Proof.Gen.Pre_finite
public import proofs.«01_k».proof.Proof.Gen.InProj
public import proofs.«01_k».proof.Proof.Gen.InProj.Skeleton
public import proofs.«01_k».proof.Proof.Gen.InProj.Points
public import proofs.«01_k».proof.Proof.Gen.InProj.Launch
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Points
public import proofs.«01_k».proof.Proof.Gen.InProjIdeal.Launch
public import proofs.«01_k».proof.Proof.Gen.InProjIdeal.Frame
public import proofs.«01_k».proof.Proof.Gen.InProjRefIdeal
public import proofs.«01_k».proof.Proof.Gen.InProjRefIdeal.Run
public import proofs.«01_k».proof.Proof.Gen.Ffn
public import proofs.«01_k».proof.Proof.Gen.FfnIdeal
public import proofs.«01_k».proof.Proof.Gen.FfnRefIdeal
public import proofs.«01_k».proof.Proof.Gen.Merge
public import proofs.«01_k».proof.Proof.Gen.MergeIdeal
public import proofs.«01_k».proof.Proof.Gen.MergeRefIdeal

@[expose] public section

noncomputable section

namespace Cert.Proof

/-- Everything the certificate claims. -/
theorem claim : Cert.Claim :=
  ⟨inferInstance, inferInstance, inferInstance, inferInstance, inferInstance, inferInstance, inferInstance, inferInstance, inferInstance,
    inferInstance, inferInstance, inferInstance, inferInstance,
    AttnEq.frame_p, AttnEq.frame_i, AttnEq.frame_i_finite, AttnEq.frame_r, AttnEq.frame_r_finite,
    FfnEq.frame_p, FfnEq.frame_i, FfnEq.frame_r, MergeEq.frame_p, MergeEq.frame_i, MergeEq.frame_r,
    InProjEq.frame_p, InProjEq.frame_i, InProjEq.frame_r,
    AttnEq.preserves, AttnEq.algebraic, FfnEq.preserves, FfnEq.algebraic, MergeEq.preserves, MergeEq.algebraic,
    InProjEq.preserves, InProjEq.algebraic⟩

end Cert.Proof

end
